-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x128x256 : Shape := ⟨4, ![2, 256, 128, 256]⟩
abbrev S2x19x128x256 : Shape := ⟨4, ![2, 19, 128, 256]⟩
abbrev S2x128x256 : Shape := ⟨3, ![2, 128, 256]⟩
abbrev S512x128x256 : Shape := ⟨3, ![512, 128, 256]⟩
abbrev S38x128x256 : Shape := ⟨3, ![38, 128, 256]⟩
abbrev S1x1 : Shape := ⟨2, ![1, 1]⟩
abbrev S_ : Shape := ⟨0, ![]⟩
abbrev S256x32x256 : Shape := ⟨3, ![256, 32, 256]⟩
abbrev S19x32x256 : Shape := ⟨3, ![19, 32, 256]⟩
abbrev S1x32x256 : Shape := ⟨3, ![1, 32, 256]⟩
abbrev S256x19 : Shape := ⟨2, ![256, 19]⟩
abbrev S19x4 : Shape := ⟨2, ![19, 4]⟩
abbrev S256x256 : Shape := ⟨2, ![256, 256]⟩
abbrev S19x256 : Shape := ⟨2, ![19, 256]⟩
abbrev S19x1 : Shape := ⟨2, ![19, 1]⟩
abbrev S19x19 : Shape := ⟨2, ![19, 19]⟩
abbrev S32x256 : Shape := ⟨2, ![32, 256]⟩
abbrev S256x8192 : Shape := ⟨2, ![256, 8192]⟩
abbrev S19x8192 : Shape := ⟨2, ![19, 8192]⟩
abbrev S19x32 : Shape := ⟨2, ![19, 32]⟩
abbrev S19 : Shape := ⟨1, ![19]⟩
abbrev S1x256 : Shape := ⟨2, ![1, 256]⟩
abbrev S1x8192 : Shape := ⟨2, ![1, 8192]⟩
abbrev S1x19x1 : Shape := ⟨3, ![1, 19, 1]⟩
abbrev S1 : Shape := ⟨1, ![1]⟩
abbrev S1x1x1 : Shape := ⟨3, ![1, 1, 1]⟩
abbrev S1x19 : Shape := ⟨2, ![1, 19]⟩

abbrev nBuf : Space → Nat
  | .hbm => 14
  | .vmem => 21
  | .smem => 0
  | _ => 0

abbrev bufTy : (tb : Table) → Fin (tcTables nBuf tb) → BufTy
  | .hbm, ⟨0, _⟩ => ⟨S2x256x128x256, .f32⟩
  | .hbm, ⟨1, _⟩ => ⟨S2x19x128x256, .f32⟩
  | .hbm, ⟨2, _⟩ => ⟨S2x128x256, .i1⟩
  | .hbm, ⟨3, _⟩ => ⟨S2x256x128x256, .f32⟩
  | .hbm, ⟨4, _⟩ => ⟨S2x19x128x256, .f32⟩
  | .hbm, ⟨5, _⟩ => ⟨S2x128x256, .i1⟩
  | .hbm, ⟨6, _⟩ => ⟨S512x128x256, .f32⟩
  | .hbm, ⟨7, _⟩ => ⟨S512x128x256, .f32⟩
  | .hbm, ⟨8, _⟩ => ⟨S38x128x256, .f32⟩
  | .hbm, ⟨9, _⟩ => ⟨S38x128x256, .f32⟩
  | .hbm, ⟨10, _⟩ => ⟨S2x128x256, .i32⟩
  | .hbm, ⟨11, _⟩ => ⟨S2x128x256, .i32⟩
  | .hbm, ⟨12, _⟩ => ⟨S1x1, .f32⟩
  | .hbm, ⟨13, _⟩ => ⟨S_, .f32⟩
  | .local _ .vmem, ⟨0, _⟩ => ⟨S256x32x256, .f32⟩
  | .local _ .vmem, ⟨1, _⟩ => ⟨S256x32x256, .f32⟩
  | .local _ .vmem, ⟨2, _⟩ => ⟨S256x32x256, .f32⟩
  | .local _ .vmem, ⟨3, _⟩ => ⟨S256x32x256, .f32⟩
  | .local _ .vmem, ⟨4, _⟩ => ⟨S19x32x256, .f32⟩
  | .local _ .vmem, ⟨5, _⟩ => ⟨S19x32x256, .f32⟩
  | .local _ .vmem, ⟨6, _⟩ => ⟨S19x32x256, .f32⟩
  | .local _ .vmem, ⟨7, _⟩ => ⟨S19x32x256, .f32⟩
  | .local _ .vmem, ⟨8, _⟩ => ⟨S1x32x256, .i32⟩
  | .local _ .vmem, ⟨9, _⟩ => ⟨S1x32x256, .i32⟩
  | .local _ .vmem, ⟨10, _⟩ => ⟨S1x32x256, .i32⟩
  | .local _ .vmem, ⟨11, _⟩ => ⟨S1x32x256, .i32⟩
  | .local _ .vmem, ⟨12, _⟩ => ⟨S1x1, .f32⟩
  | .local _ .vmem, ⟨13, _⟩ => ⟨S256x19, .f32⟩
  | .local _ .vmem, ⟨14, _⟩ => ⟨S19x4, .f32⟩
  | .local _ .vmem, ⟨15, _⟩ => ⟨S256x256, .i32⟩
  | .local _ .vmem, ⟨16, _⟩ => ⟨S256x256, .i32⟩
  | .local _ .vmem, ⟨17, _⟩ => ⟨S19x256, .bf16⟩
  | .local _ .vmem, ⟨18, _⟩ => ⟨S19x1, .f32⟩
  | .local _ .vmem, ⟨19, _⟩ => ⟨S19x19, .f32⟩
  | .local _ .vmem, ⟨20, _⟩ => ⟨S19x19, .f32⟩
  | _, _ => ⟨S2x256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32_3 : BitVec 32 := 0#32
  let v9 : BitVec 1 := Scalar.cmpi .eq arg0 c0_i32_3
  let v10 : BitVec 32 := Scalar.extui v9
  let c0_i32_4 : BitVec 32 := 0#32
  let v11 : BitVec 1 := Scalar.cmpi .ne v10 c0_i32_4
  v11

def k0_off1 (i : grid0.Coords) : Fin 2 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c7_i32 : BitVec 32 := 7#32
  let v1 : BitVec 32 := Scalar.subi c7_i32 arg1
  let v2 : BitVec 32 := Scalar.select v0 arg1 v1
  let c32_i32 : BitVec 32 := 32#32
  let v3 : BitVec 32 := Scalar.muli v2 c32_i32
  let v249 : Index := Scalar.indexCast v3
  let c0_39 : Index := 0#32
  ![v249.toNat, 0]
def k0_cond4 (i : grid0.Coords) : BitVec 1 :=
  let arg0 : BitVec 32 := BitVec.ofNat 32 (i 0).val
  let c1_i32_7 : BitVec 32 := 1#32
  let v17 : BitVec 1 := Scalar.cmpi .eq arg0 c1_i32_7
  let v18 : BitVec 32 := Scalar.extui v17
  let c0_i32_8 : BitVec 32 := 0#32
  let v19 : BitVec 1 := Scalar.cmpi .ne v18 c0_i32_8
  v19

def k0_off2 (i : grid0.Coords) : Fin 2 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c7_i32 : BitVec 32 := 7#32
  let v1 : BitVec 32 := Scalar.subi c7_i32 arg1
  let v2 : BitVec 32 := Scalar.select v0 arg1 v1
  let c32_i32 : BitVec 32 := 32#32
  let v3 : BitVec 32 := Scalar.muli v2 c32_i32
  let v31 : Index := Scalar.indexCast v3
  let c0_20 : Index := 0#32
  ![v31.toNat, 0]
def k0_cond5 (i : grid0.Coords) : BitVec 1 :=
  let arg0 : BitVec 32 := BitVec.ofNat 32 (i 0).val
  let c1_i32_9 : BitVec 32 := 1#32
  let v20 : BitVec 1 := Scalar.cmpi .eq arg0 c1_i32_9
  let arg1 : BitVec 32 := BitVec.ofNat 32 (i 1).val
  let c7_i32_10 : BitVec 32 := 7#32
  let v21 : BitVec 1 := Scalar.cmpi .eq arg1 c7_i32_10
  let v22 : BitVec 1 := Scalar.andi v20 v21
  let v23 : BitVec 32 := Scalar.extui v22
  let c0_i32_11 : BitVec 32 := 0#32
  let v24 : BitVec 1 := Scalar.cmpi .ne v23 c0_i32_11
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.subi c7_i32 arg1
  let v2 : BitVec 32 := Scalar.select v0 arg1 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.subi c7_i32 arg1
  let v2 : BitVec 32 := Scalar.select v0 arg1 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S19x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S19x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2x256x128x256 : Shape := ⟨4, ![2, 256, 128, 256]⟩
abbrev S2x19x128x256 : Shape := ⟨4, ![2, 19, 128, 256]⟩
abbrev S2x128x256 : Shape := ⟨3, ![2, 128, 256]⟩
abbrev S2x128x256x256 : Shape := ⟨4, ![2, 128, 256, 256]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S19x256 : Shape := ⟨2, ![19, 256]⟩
abbrev S19 : Shape := ⟨1, ![19]⟩
abbrev S19x1 : Shape := ⟨2, ![19, 1]⟩
abbrev S19x19 : Shape := ⟨2, ![19, 19]⟩
abbrev S1x19 : Shape := ⟨2, ![1, 19]⟩
abbrev S65536x19 : Shape := ⟨2, ![65536, 19]⟩
abbrev S256x19 : Shape := ⟨2, ![256, 19]⟩
abbrev S19x2 : Shape := ⟨2, ![19, 2]⟩

abbrev nBuf : Space → Nat
  | .hbm => 263
  | .vmem => 0
  | .smem => 0
  | _ => 0

abbrev hbmTy0_0 (i : Nat) : BufTy := match i % 128 with
  | 0 => ⟨S2x256x128x256, .f32⟩
  | 1 => ⟨S2x19x128x256, .f32⟩
  | 2 => ⟨S2x128x256, .i1⟩
  | 3 => ⟨S2x256x128x256, .f32⟩
  | 4 => ⟨S2x19x128x256, .f32⟩
  | 5 => ⟨S2x128x256, .i1⟩
  | 6 => ⟨S2x128x256x256, .f32⟩
  | 7 => ⟨S65536x256, .f32⟩
  | 8 => ⟨S2x128x256x256, .f32⟩
  | 9 => ⟨S65536x256, .f32⟩
  | 10 => ⟨S2x19x128x256, .i32⟩
  | 11 => ⟨S_, .f32⟩
  | 12 => ⟨S_, .i32⟩
  | 13 => ⟨S2x128x256, .f32⟩
  | 14 => ⟨S2x128x256, .i32⟩
  | 15 => ⟨S65536, .i32⟩
  | 16 => ⟨S2x19x128x256, .i32⟩
  | 17 => ⟨S_, .f32⟩
  | 18 => ⟨S_, .i32⟩
  | 19 => ⟨S2x128x256, .f32⟩
  | 20 => ⟨S2x128x256, .i32⟩
  | 21 => ⟨S65536, .i32⟩
  | 22 => ⟨S65536, .i1⟩
  | 23 => ⟨S65536, .f32⟩
  | 24 => ⟨S65536, .i1⟩
  | 25 => ⟨S65536, .f32⟩
  | 26 => ⟨S_, .f32⟩
  | 27 => ⟨S65536, .f32⟩
  | 28 => ⟨S65536, .f32⟩
  | 29 => ⟨S65536x1, .f32⟩
  | 30 => ⟨S65536x256, .f32⟩
  | 31 => ⟨S65536x256, .f32⟩
  | 32 => ⟨S_, .f32⟩
  | 33 => ⟨S19x256, .f32⟩
  | 34 => ⟨S65536x1, .i32⟩
  | 35 => ⟨S19x256, .f32⟩
  | 36 => ⟨S65536x1, .f32⟩
  | 37 => ⟨S65536x256, .f32⟩
  | 38 => ⟨S65536x256, .f32⟩
  | 39 => ⟨S_, .f32⟩
  | 40 => ⟨S19x256, .f32⟩
  | 41 => ⟨S65536x1, .i32⟩
  | 42 => ⟨S19x256, .f32⟩
  | 43 => ⟨S19x256, .f32⟩
  | 44 => ⟨S_, .f32⟩
  | 45 => ⟨S19, .f32⟩
  | 46 => ⟨S65536x1, .i32⟩
  | 47 => ⟨S19, .f32⟩
  | 48 => ⟨S_, .f32⟩
  | 49 => ⟨S19, .f32⟩
  | 50 => ⟨S65536x1, .i32⟩
  | 51 => ⟨S19, .f32⟩
  | 52 => ⟨S19, .f32⟩
  | 53 => ⟨S_, .f32⟩
  | 54 => ⟨S19, .f32⟩
  | 55 => ⟨S19, .f32⟩
  | 56 => ⟨S19x1, .f32⟩
  | 57 => ⟨S19x256, .f32⟩
  | 58 => ⟨S19x256, .f32⟩
  | 59 => ⟨S_, .f32⟩
  | 60 => ⟨S19, .f32⟩
  | 61 => ⟨S19, .i1⟩
  | 62 => ⟨S19x19, .i32⟩
  | 63 => ⟨S19x19, .i32⟩
  | 64 => ⟨S_, .i32⟩
  | 65 => ⟨S19x19, .i32⟩
  | 66 => ⟨S19x19, .i32⟩
  | 67 => ⟨S19x19, .i1⟩
  | 68 => ⟨S65536x256, .f32⟩
  | 69 => ⟨S_, .f32⟩
  | 70 => ⟨S65536, .f32⟩
  | 71 => ⟨S65536x1, .f32⟩
  | 72 => ⟨S19x256, .f32⟩
  | 73 => ⟨S_, .f32⟩
  | 74 => ⟨S19, .f32⟩
  | 75 => ⟨S1x19, .f32⟩
  | 76 => ⟨S65536x19, .f32⟩
  | 77 => ⟨S65536x19, .f32⟩
  | 78 => ⟨S65536x19, .f32⟩
  | 79 => ⟨S256x19, .f32⟩
  | 80 => ⟨S65536x19, .f32⟩
  | 81 => ⟨S_, .f32⟩
  | 82 => ⟨S65536x19, .f32⟩
  | 83 => ⟨S65536x19, .f32⟩
  | 84 => ⟨S65536x19, .f32⟩
  | 85 => ⟨S_, .f32⟩
  | 86 => ⟨S65536x19, .f32⟩
  | 87 => ⟨S65536x19, .f32⟩
  | 88 => ⟨S_, .f32⟩
  | 89 => ⟨S65536x19, .f32⟩
  | 90 => ⟨S65536x19, .f32⟩
  | 91 => ⟨S65536x19, .f32⟩
  | 92 => ⟨S_, .f32⟩
  | 93 => ⟨S65536x19, .f32⟩
  | 94 => ⟨S65536x19, .f32⟩
  | 95 => ⟨S_, .f32⟩
  | 96 => ⟨S65536, .f32⟩
  | 97 => ⟨S_, .f32⟩
  | 98 => ⟨S19, .f32⟩
  | 99 => ⟨S65536x1, .i32⟩
  | 100 => ⟨S19, .f32⟩
  | 101 => ⟨S_, .f32⟩
  | 102 => ⟨S19x19, .f32⟩
  | 103 => ⟨S65536x1, .i32⟩
  | 104 => ⟨S19x19, .f32⟩
  | 105 => ⟨S_, .f32⟩
  | 106 => ⟨S19, .f32⟩
  | 107 => ⟨S19, .f32⟩
  | 108 => ⟨S19x1, .f32⟩
  | 109 => ⟨S19x19, .f32⟩
  | 110 => ⟨S19x19, .f32⟩
  | 111 => ⟨S_, .f32⟩
  | 112 => ⟨S19, .f32⟩
  | 113 => ⟨S19, .i1⟩
  | 114 => ⟨S19, .i1⟩
  | 115 => ⟨S19, .i32⟩
  | 116 => ⟨S19, .i32⟩
  | 117 => ⟨S_, .i32⟩
  | 118 => ⟨S19, .i32⟩
  | 119 => ⟨S19, .i1⟩
  | 120 => ⟨S_, .i32⟩
  | 121 => ⟨S19, .i32⟩
  | 122 => ⟨S19, .i32⟩
  | 123 => ⟨S19, .i32⟩
  | 124 => ⟨S_, .i32⟩
  | 125 => ⟨S19, .i32⟩
  | 126 => ⟨S19, .i1⟩
  | 127 => ⟨S_, .i32⟩
  | _ => ⟨S2x256x128x256, .f32⟩

abbrev hbmTy0_1 (i : Nat) : BufTy := match i % 128 with
  | 0 => ⟨S19, .i32⟩
  | 1 => ⟨S19, .i32⟩
  | 2 => ⟨S19, .i32⟩
  | 3 => ⟨S19x1, .i32⟩
  | 4 => ⟨S19x1, .i32⟩
  | 5 => ⟨S19x2, .i32⟩
  | 6 => ⟨S19, .f32⟩
  | 7 => ⟨S_, .f32⟩
  | 8 => ⟨S_, .f32⟩
  | 9 => ⟨S19, .f32⟩
  | 10 => ⟨S19, .f32⟩
  | 11 => ⟨S_, .f32⟩
  | 12 => ⟨S_, .f32⟩
  | 13 => ⟨S19, .f32⟩
  | 14 => ⟨S_, .f32⟩
  | 15 => ⟨S_, .f32⟩
  | 16 => ⟨S_, .f32⟩
  | 17 => ⟨S_, .f32⟩
  | 18 => ⟨S_, .f32⟩
  | 19 => ⟨S19, .i1⟩
  | 20 => ⟨S1x19, .i1⟩
  | 21 => ⟨S19x19, .i1⟩
  | 22 => ⟨S19x19, .i1⟩
  | 23 => ⟨S_, .f32⟩
  | 24 => ⟨S_, .f32⟩
  | 25 => ⟨S19x19, .f32⟩
  | 26 => ⟨S19x19, .f32⟩
  | 27 => ⟨S_, .f32⟩
  | 28 => ⟨S19, .f32⟩
  | 29 => ⟨S_, .f32⟩
  | 30 => ⟨S_, .f32⟩
  | 31 => ⟨S19, .f32⟩
  | 32 => ⟨S19, .f32⟩
  | 33 => ⟨S_, .f32⟩
  | 34 => ⟨S_, .f32⟩
  | 35 => ⟨S65536x256, .f32⟩
  | 36 => ⟨S_, .f32⟩
  | 37 => ⟨S65536, .f32⟩
  | 38 => ⟨S65536x1, .f32⟩
  | 39 => ⟨S19x256, .f32⟩
  | 40 => ⟨S_, .f32⟩
  | 41 => ⟨S19, .f32⟩
  | 42 => ⟨S1x19, .f32⟩
  | 43 => ⟨S65536x19, .f32⟩
  | 44 => ⟨S65536x19, .f32⟩
  | 45 => ⟨S65536x19, .f32⟩
  | 46 => ⟨S256x19, .f32⟩
  | 47 => ⟨S65536x19, .f32⟩
  | 48 => ⟨S_, .f32⟩
  | 49 => ⟨S65536x19, .f32⟩
  | 50 => ⟨S65536x19, .f32⟩
  | 51 => ⟨S65536x19, .f32⟩
  | 52 => ⟨S_, .f32⟩
  | 53 => ⟨S65536x19, .f32⟩
  | 54 => ⟨S65536x19, .f32⟩
  | 55 => ⟨S_, .f32⟩
  | 56 => ⟨S65536x19, .f32⟩
  | 57 => ⟨S65536x19, .f32⟩
  | 58 => ⟨S65536x19, .f32⟩
  | 59 => ⟨S_, .f32⟩
  | 60 => ⟨S65536x19, .f32⟩
  | 61 => ⟨S65536x19, .f32⟩
  | 62 => ⟨S_, .f32⟩
  | 63 => ⟨S65536, .f32⟩
  | 64 => ⟨S_, .f32⟩
  | 65 => ⟨S19, .f32⟩
  | 66 => ⟨S65536x1, .i32⟩
  | 67 => ⟨S19, .f32⟩
  | 68 => ⟨S_, .f32⟩
  | 69 => ⟨S19x19, .f32⟩
  | 70 => ⟨S65536x1, .i32⟩
  | 71 => ⟨S19x19, .f32⟩
  | 72 => ⟨S_, .f32⟩
  | 73 => ⟨S19, .f32⟩
  | 74 => ⟨S19, .f32⟩
  | 75 => ⟨S19x1, .f32⟩
  | 76 => ⟨S19x19, .f32⟩
  | 77 => ⟨S19x19, .f32⟩
  | 78 => ⟨S_, .f32⟩
  | 79 => ⟨S19, .f32⟩
  | 80 => ⟨S19, .i1⟩
  | 81 => ⟨S19, .i1⟩
  | 82 => ⟨S19, .i32⟩
  | 83 => ⟨S19, .i32⟩
  | 84 => ⟨S_, .i32⟩
  | 85 => ⟨S19, .i32⟩
  | 86 => ⟨S19, .i1⟩
  | 87 => ⟨S_, .i32⟩
  | 88 => ⟨S19, .i32⟩
  | 89 => ⟨S19, .i32⟩
  | 90 => ⟨S19, .i32⟩
  | 91 => ⟨S_, .i32⟩
  | 92 => ⟨S19, .i32⟩
  | 93 => ⟨S19, .i1⟩
  | 94 => ⟨S_, .i32⟩
  | 95 => ⟨S19, .i32⟩
  | 96 => ⟨S19, .i32⟩
  | 97 => ⟨S19, .i32⟩
  | 98 => ⟨S19x1, .i32⟩
  | 99 => ⟨S19x1, .i32⟩
  | 100 => ⟨S19x2, .i32⟩
  | 101 => ⟨S19, .f32⟩
  | 102 => ⟨S_, .f32⟩
  | 103 => ⟨S_, .f32⟩
  | 104 => ⟨S19, .f32⟩
  | 105 => ⟨S19, .f32⟩
  | 106 => ⟨S_, .f32⟩
  | 107 => ⟨S_, .f32⟩
  | 108 => ⟨S19, .f32⟩
  | 109 => ⟨S_, .f32⟩
  | 110 => ⟨S_, .f32⟩
  | 111 => ⟨S_, .f32⟩
  | 112 => ⟨S_, .f32⟩
  | 113 => ⟨S_, .f32⟩
  | 114 => ⟨S19, .i1⟩
  | 115 => ⟨S1x19, .i1⟩
  | 116 => ⟨S19x19, .i1⟩
  | 117 => ⟨S19x19, .i1⟩
  | 118 => ⟨S_, .f32⟩
  | 119 => ⟨S_, .f32⟩
  | 120 => ⟨S19x19, .f32⟩
  | 121 => ⟨S19x19, .f32⟩
  | 122 => ⟨S_, .f32⟩
  | 123 => ⟨S19, .f32⟩
  | 124 => ⟨S_, .f32⟩
  | 125 => ⟨S_, .f32⟩
  | 126 => ⟨S19, .f32⟩
  | 127 => ⟨S19, .f32⟩
  | _ => ⟨S2x256x128x256, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S2x256x128x256, .f32⟩

abbrev hbmTy (i : Nat) : BufTy := match i / 128 with
  | 0 => hbmTy0_0 i
  | 1 => hbmTy0_1 i
  | 2 => hbmTy0_2 i
  | _ => ⟨S2x256x128x256, .f32⟩

abbrev bufTy : (tb : Table) → Fin (tcTables nBuf tb) → BufTy
  | .hbm, ⟨i, _⟩ => hbmTy i
  | _, _ => ⟨S2x256x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_call1_cst : Ref sig .tc := ⟨.hbm, 17, rfl⟩
abbrev main_call1_c : Ref sig .tc := ⟨.hbm, 18, rfl⟩
abbrev main_call1_v1_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_19 : Ref sig .tc := ⟨.hbm, 124, rfl⟩
abbrev main_v89 : Ref sig .tc := ⟨.hbm, 125, rfl⟩
abbrev main_v90 : Ref sig .tc := ⟨.hbm, 126, rfl⟩
abbrev main_c_20 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_21 : Ref sig .tc := ⟨.hbm, 135, rfl⟩
abbrev main_call2_v0 : Ref sig .tc := ⟨.hbm, 136, rfl⟩
abbrev main_call2_v1 : Ref sig .tc := ⟨.hbm, 137, rfl⟩
abbrev main_v98 : Ref sig .tc := ⟨.hbm, 138, rfl⟩
abbrev main_cst_22 : Ref sig .tc := ⟨.hbm, 139, rfl⟩
abbrev main_v99 : Ref sig .tc := ⟨.hbm, 140, rfl⟩
abbrev main_v100 : Ref sig .tc := ⟨.hbm, 141, rfl⟩
abbrev main_cst_23 : Ref sig .tc := ⟨.hbm, 142, rfl⟩
abbrev main_v101 : Ref sig .tc := ⟨.hbm, 143, rfl⟩
abbrev main_cst_24 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_25 : Ref sig .tc := ⟨.hbm, 151, rfl⟩
abbrev main_call3_v0 : Ref sig .tc := ⟨.hbm, 152, rfl⟩
abbrev main_call3_v1 : Ref sig .tc := ⟨.hbm, 153, rfl⟩
abbrev main_v108 : Ref sig .tc := ⟨.hbm, 154, rfl⟩
abbrev main_cst_26 : Ref sig .tc := ⟨.hbm, 155, rfl⟩
abbrev main_v109 : Ref sig .tc := ⟨.hbm, 156, rfl⟩
abbrev main_cst_27 : Ref sig .tc := ⟨.hbm, 157, rfl⟩
abbrev main_call4_v0 : Ref sig .tc := ⟨.hbm, 158, rfl⟩
abbrev main_call4_v1 : Ref sig .tc := ⟨.hbm, 159, rfl⟩
abbrev main_v110 : Ref sig .tc := ⟨.hbm, 160, rfl⟩
abbrev main_cst_28 : Ref sig .tc := ⟨.hbm, 161, rfl⟩
abbrev main_v111 : Ref sig .tc := ⟨.hbm, 162, rfl⟩
abbrev main_v112 : Ref sig .tc := ⟨.hbm, 163, rfl⟩
abbrev main_cst_29 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_30 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_31 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_32 : Ref sig .tc := ⟨.hbm, 180, rfl⟩
abbrev main_v126 : Ref sig .tc := ⟨.hbm, 181, rfl⟩
abbrev main_v127 : Ref sig .tc := ⟨.hbm, 182, rfl⟩
abbrev main_cst_33 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_34 : Ref sig .tc := ⟨.hbm, 187, rfl⟩
abbrev main_v131 : Ref sig .tc := ⟨.hbm, 188, rfl⟩
abbrev main_v132 : Ref sig .tc := ⟨.hbm, 189, rfl⟩
abbrev main_cst_35 : Ref sig .tc := ⟨.hbm, 190, rfl⟩
abbrev main_v133 : Ref sig .tc := ⟨.hbm, 191, rfl⟩
abbrev main_cst_36 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_37 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_38 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_cst_39 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_c_40 : Ref sig .tc := ⟨.hbm, 212, rfl⟩
abbrev main_v150 : Ref sig .tc := ⟨.hbm, 213, rfl⟩
abbrev main_v151 : Ref sig .tc := ⟨.hbm, 214, rfl⟩
abbrev main_c_41 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_c_42 : Ref sig .tc := ⟨.hbm, 219, rfl⟩
abbrev main_v155 : Ref sig .tc := ⟨.hbm, 220, rfl⟩
abbrev main_v156 : Ref sig .tc := ⟨.hbm, 221, rfl⟩
abbrev main_c_43 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_cst_44 : Ref sig .tc := ⟨.hbm, 230, rfl⟩
abbrev main_call5_v0 : Ref sig .tc := ⟨.hbm, 231, rfl⟩
abbrev main_call5_v1 : Ref sig .tc := ⟨.hbm, 232, rfl⟩
abbrev main_v164 : Ref sig .tc := ⟨.hbm, 233, rfl⟩
abbrev main_cst_45 : Ref sig .tc := ⟨.hbm, 234, rfl⟩
abbrev main_v165 : Ref sig .tc := ⟨.hbm, 235, rfl⟩
abbrev main_v166 : Ref sig .tc := ⟨.hbm, 236, rfl⟩
abbrev main_cst_46 : Ref sig .tc := ⟨.hbm, 237, rfl⟩
abbrev main_v167 : Ref sig .tc := ⟨.hbm, 238, rfl⟩
abbrev main_cst_47 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_cst_48 : Ref sig .tc := ⟨.hbm, 246, rfl⟩
abbrev main_call6_v0 : Ref sig .tc := ⟨.hbm, 247, rfl⟩
abbrev main_call6_v1 : Ref sig .tc := ⟨.hbm, 248, rfl⟩
abbrev main_v174 : Ref sig .tc := ⟨.hbm, 249, rfl⟩
abbrev main_cst_49 : Ref sig .tc := ⟨.hbm, 250, rfl⟩
abbrev main_v175 : Ref sig .tc := ⟨.hbm, 251, rfl⟩
abbrev main_cst_50 : Ref sig .tc := ⟨.hbm, 252, rfl⟩
abbrev main_call7_v0 : Ref sig .tc := ⟨.hbm, 253, rfl⟩
abbrev main_call7_v1 : Ref sig .tc := ⟨.hbm, 254, rfl⟩
abbrev main_v176 : Ref sig .tc := ⟨.hbm, 255, rfl⟩
abbrev main_cst_51 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_cst_52 : Ref sig .tc := ⟨.hbm, 260, rfl⟩
abbrev main_v180 : Ref sig .tc := ⟨.hbm, 261, rfl⟩
abbrev main_v181 : Ref sig .tc := ⟨.hbm, 262, rfl⟩

abbrev nD : Nat := 1
abbrev τ : Topo := Topo.v7x

variable {F : FTy → Type} [FloatOps F]
-- ==== Proof.KModel.lean ====
/- What one grid point of the kernel does to its eight scratch buffers, as a function of what they hold and of the six
   input blocks it reads, at any float instance. -/
module

public import proofs.«01_k».proof.Proof.Gen.KernelIdeal.Skeleton
public import proofs.«01_k».proof.Proof.Gen.KernelIdeal.Points
public import Idealize.ShloMosaic.Lib.ValueIdx

@[expose] public section

set_option maxRecDepth 16384

noncomputable section

namespace Cert.KernelIdeal.Pass

open Idealize.ShloMosaic Idealize.ShloMosaic.TcCoe Idealize.ShloMosaic.ValueIdx Cert.KernelIdeal.Gen

variable {F : FTy → Type} [FloatOps F]

/-! ## Which branches a point takes -/

/-- The first `scf.if`: the very first point. -/
abbrev atFirst (i : grid0.Coords) : Prop := (Scalar.cmpi .ne (Scalar.extui (Scalar.andi (Scalar.cmpi .eq (BitVec.ofNat 32 (i 0).val) 0#32) (Scalar.cmpi .eq (Scalar.select (Scalar.cmpi .eq (BitVec.ofNat 32 (i 0).val) 0#32) (BitVec.ofNat 32 (i 1).val) (Scalar.subi 7#32 (BitVec.ofNat 32 (i 1).val))) 0#32))) 0#32) = 1#1
/-- The second: the points of the first pass. -/
abbrev inPass1 (i : grid0.Coords) : Prop := k0_cond2 i = 1#1
/-- The third: the first point of the second pass. -/
abbrev atTurn (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The fourth: the points of the second pass. -/
abbrev inPass2 (i : grid0.Coords) : Prop := k0_cond4 i = 1#1
/-- The fifth: the last point. -/
abbrev atLast (i : grid0.Coords) : Prop := k0_cond5 i = 1#1

/-- The two coordinates of point `t` of the 2 × 8 grid. -/
theorem coords_eq (t : Fin grid0.N) : (grid0.coords t 0).val = t.val / 8 % 2 ∧ (grid0.coords t 1).val = t.val / 1 % 8 :=
  ⟨Pipeline.Grid.coords_val t 0 (by decide) rfl, Pipeline.Grid.coords_val t 1 (by decide) rfl⟩

/-- The first branch is taken at point 0 only. -/
theorem atFirst_iff (t : Fin grid0.N) : atFirst (grid0.coords t) ↔ t.val = 0 :=
  (by decide +kernel : ∀ t : Fin grid0.N, atFirst (grid0.coords t) ↔ t.val = 0) t

/-- The first pass is points 0 to 7. -/
theorem inPass1_iff (t : Fin grid0.N) : inPass1 (grid0.coords t) ↔ t.val < 8 :=
  (by decide +kernel : ∀ t : Fin grid0.N, inPass1 (grid0.coords t) ↔ t.val < 8) t

/-- The passes meet at point 8. -/
theorem atTurn_iff (t : Fin grid0.N) : atTurn (grid0.coords t) ↔ t.val = 8 :=
  (by decide +kernel : ∀ t : Fin grid0.N, atTurn (grid0.coords t) ↔ t.val = 8) t

/-- The second pass is points 8 to 15. -/
theorem inPass2_iff (t : Fin grid0.N) : inPass2 (grid0.coords t) ↔ 8 ≤ t.val :=
  (by decide +kernel : ∀ t : Fin grid0.N, inPass2 (grid0.coords t) ↔ 8 ≤ t.val) t

/-- The last branch is taken at point 15 only. -/
theorem atLast_iff (t : Fin grid0.N) : atLast (grid0.coords t) ↔ t.val = 15 :=
  (by decide +kernel : ∀ t : Fin grid0.N, atLast (grid0.coords t) ↔ t.val = 15) t

/-- In the first pass point `t` stores the labels of its block at rows `32 t` of a label buffer. -/
theorem off1_eq (t : Fin grid0.N) (h : t.val < 8) : k0_off1 (grid0.coords t) = ![32 * t.val, 0] :=
  (by decide +kernel : ∀ t : Fin grid0.N, t.val < 8 → k0_off1 (grid0.coords t) = ![32 * t.val, 0]) t h

/-- In the second pass point `t` reads them back at rows `32 (15 - t)`. -/
theorem off2_eq (t : Fin grid0.N) (h : 8 ≤ t.val) : k0_off2 (grid0.coords t) = ![32 * (15 - t.val), 0] :=
  (by decide +kernel : ∀ t : Fin grid0.N, 8 ≤ t.val → k0_off2 (grid0.coords t) = ![32 * (15 - t.val), 0]) t h

/-! ## The scratch buffers and one point's effect on them -/

variable (F) in
/-- The eight scratch buffers: the centroid numerators, the four per-class sums, the two label buffers, the centroids and
    their squared norms, and the two tables of summed distances. -/
structure St where
  /-- centroid numerators -/
  num : Vec F S256x19 .f32
  /-- weights and counts per class -/
  aux : Vec F S19x4 .f32
  /-- source labels -/
  slab : Vec F S256x256 .i32
  /-- target labels -/
  tlab : Vec F S256x256 .i32
  /-- centroids -/
  cen : Vec F S19x256 .bf16
  /-- squared norms of the centroids -/
  c2 : Vec F S19x1 .f32
  /-- summed source distances -/
  sd : Vec F S19x19 .f32
  /-- summed target distances -/
  td : Vec F S19x19 .f32

variable (F) in
/-- The six input blocks of a point. -/
structure Blk where
  /-- source features -/
  sf : Vec F S256x32x256 .f32
  /-- target features -/
  tf : Vec F S256x32x256 .f32
  /-- source class scores -/
  ss : Vec F S19x32x256 .f32
  /-- target class scores -/
  ts : Vec F S19x32x256 .f32
  /-- source confidence -/
  sw : Vec F S1x32x256 .i32
  /-- target confidence -/
  tw : Vec F S1x32x256 .i32

/-- The source labels of a block. -/
def labS (x : Vec F S19x32x256 .f32) : IVec S32x256 32 :=
  k0_pay64 (k0_pay11 x) (k0_pay59 (k0_pay11 x) (k0_pay33 x) (k0_pay34 x) (k0_pay35 x)) (k0_pay61 (k0_pay11 x) (k0_pay33 x) (k0_pay35 x))
    (k0_pay62 (k0_pay11 x) (k0_pay33 x) (k0_pay35 x)) k0_pay63

/-- The target labels of a block, as stored. -/
def labT (x : Vec F S19x32x256 .f32) : IVec S32x256 32 :=
  k0_pay114 (k0_pay65 x) (k0_pay107 (k0_pay65 x) (k0_pay81 x) (k0_pay82 x) (k0_pay83 x)) (k0_pay109 (k0_pay65 x) (k0_pay81 x) (k0_pay83 x))
    (k0_pay110 (k0_pay65 x) (k0_pay81 x) (k0_pay83 x)) k0_pay111

/-- The one-hot table of a block's source labels. -/
def hotS (x : Vec F S19x32x256 .f32) : FVec F S19x32x256 .f32 := k0_pay115 (labS x)

/-- The one-hot table of a block's target labels. -/
def hotT (x : Vec F S19x32x256 .f32) : FVec F S19x32x256 .f32 :=
  k0_pay116 (k0_pay65 x) (k0_pay107 (k0_pay65 x) (k0_pay81 x) (k0_pay82 x) (k0_pay83 x)) (k0_pay109 (k0_pay65 x) (k0_pay81 x) (k0_pay83 x))
    (k0_pay110 (k0_pay65 x) (k0_pay81 x) (k0_pay83 x)) k0_pay111

/-- The numerators with a block's contribution added. -/
def numStep (b : Blk F) (num : Vec F S256x19 .f32) : Vec F S256x19 .f32 :=
  k0_pay120 (hotS b.ss) (hotT b.ts) (k0_pay117 b.sw) b.tw b.sf b.tf num

/-- The per-class sums with a block's contribution added. -/
def auxStep (b : Blk F) (aux : Vec F S19x4 .f32) : Vec F S19x4 .f32 :=
  k0_pay5 (hotS b.ss) (hotT b.ts) aux (k0_pay121 (hotS b.ss) (k0_pay117 b.sw)) (k0_pay122 (hotT b.ts) b.tw)

/-- The position within 32 rows from row `o` of an index of those rows is in bounds. -/
theorem putRows_lt {o : ℕ} (y : S256x256.Idx) (h : o ≤ (y 0).val ∧ (y 0).val < o + 32) (a : Fin 2) :
    (y a).val - (![o, 0] : Fin 2 → ℕ) a < S32x256.size a := by
  have h1 : (y 1).val < 256 := (y 1).isLt
  fin_cases a
  · show (y 0).val - o < 32
    omega
  · show (y 1).val - 0 < 256
    omega

/-- A label buffer with 32 rows from row `o` replaced. -/
def putRows (o : ℕ) (p : IVec S32x256 32) (old : Vec F S256x256 .i32) : Vec F S256x256 .i32 := fun y =>
  if h : o ≤ (y 0).val ∧ (y 0).val < o + 32 then p (fun a => ⟨(y a).val - (![o, 0] : Fin 2 → ℕ) a, putRows_lt y h a⟩) else old y

/-- Inside the replaced rows. -/
theorem putRows_of_mem (o : ℕ) (p : IVec S32x256 32) (old : Vec F S256x256 .i32) (y : S256x256.Idx) (h : o ≤ (y 0).val ∧ (y 0).val < o + 32) :
    putRows (F := F) o p old y = p (fun a => ⟨(y a).val - (![o, 0] : Fin 2 → ℕ) a, putRows_lt y h a⟩) := dif_pos h

/-- Outside the replaced rows. -/
theorem putRows_of_not_mem (o : ℕ) (p : IVec S32x256 32) (old : Vec F S256x256 .i32) (y : S256x256.Idx) (h : ¬(o ≤ (y 0).val ∧ (y 0).val < o + 32)) :
    putRows (F := F) o p old y = old y := dif_neg h

/-- 32 rows of a label buffer. -/
def getRows (o : Fin 2 → ℕ) (inb : ∀ a, o a + S32x256.size a ≤ S256x256.size a) (x : Vec F S256x256 .i32) : Vec F S32x256 .i32 :=
  fun y => x ((Rect.unit (s := S256x256) o S32x256.size inb).emb y)

/-- One column of the per-class sums. -/
def col (k : Fin 4) (aux : Vec F S19x4 .f32) : Vec F S19x1 .f32 := fun y => aux (ix2 (n0 := 19) (n1 := 4) (y 0) k)

/-- The scratch with the four accumulators cleared. -/
def cleared (s : St F) : St F := { s with num := k0_pay1, aux := k0_pay2, sd := k0_pay3, td := k0_pay4 }

/-- A first-pass point: labels stored, numerators and per-class sums increased. -/
def pass1 (i : grid0.Coords) (b : Blk F) (s : St F) : St F :=
  { s with
    num := numStep b s.num
    aux := auxStep b s.aux
    slab := putRows (k0_off1 i 0) (k0_pay113 (labS b.ss)) s.slab
    tlab := putRows (k0_off1 i 0) (labT b.ts) s.tlab }

/-- The turn between the passes: centroids and their norms. -/
def centred (s : St F) : St F :=
  { s with
    cen := k0_pay7 (col 0 s.aux) (col 1 s.aux) s.num
    c2 := k0_pay8 (col 0 s.aux) (col 1 s.aux) s.num }

/-- A second-pass point: distances to the centroids summed by label. -/
def pass2 (i : grid0.Coords) (h : inPass2 i) (b : Blk F) (s : St F) : St F :=
  { s with
    sd := k0_pay124 s.cen s.c2 s.sd b.sf (getRows (k0_off2 i) (k0_off2_inb i h) s.slab)
    td := k0_pay9 s.cen s.c2 k0_pay123 s.td b.tf (getRows (k0_off2 i) (k0_off2_inb i h) s.tlab) }

/-- The loss read off the scratch after the last point. -/
def lossOf (s : St F) : Vec F S1x1 .f32 :=
  let c0 := col 0 s.aux
  let c1 := col 1 s.aux
  let c2 := col 2 s.aux
  let c3 := col 3 s.aux
  k0_pay10 (k0_pay129 c0 c1 s.sd c2)
    (k0_pay131 (k0_pay127 s.sd c2) (k0_pay128 c0 c1 c2) (k0_pay130 c0 c1) (Scalar.ofBits .f32 0x00000000#32) (Scalar.ofBits .f32 0x7F800000#32))
    (k0_pay132 s.td c3) (k0_pay133 (k0_pay125 c0 c1) c3) (k0_pay134 (k0_pay125 c0 c1) k0_pay126 s.td c3)
    (k0_pay135 (k0_pay125 c0 c1) k0_pay126) (Scalar.ofBits .f32 0x00000000#32)

open Classical in
/-- One grid point's effect on the scratch. -/
def step (i : grid0.Coords) (b : Blk F) (s : St F) : St F :=
  if h : inPass2 i then pass2 i h b (if atTurn i then centred s else s)
  else pass1 i b (if atFirst i then cleared s else s)

end Cert.KernelIdeal.Pass
-- ==== Proof.KRun.lean ====
/- The kernel body run at a grid point, one theorem per combination of branches: each leaves the input blocks as they were
   and the scratch at what `Pass.pass1` / `Pass.pass2` say. -/
module

public import proofs.«01_k».proof.Proof.KModel
public import proofs.«01_k».proof.Proof.Gen.KernelIdeal.Frame
public import Idealize.ShloMosaic.Lib.VecWindow
public import Idealize.ShloMosaic.Lib.WholeRead

@[expose] public section

set_option maxRecDepth 16384

noncomputable section

namespace Cert.KernelIdeal.Pass

open Idealize.ShloMosaic Idealize.ShloMosaic.ValueIdx Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The input blocks, the output block and the scratch, held at given contents. -/
abbrev holds (c : Dev nD) (arg2 : Memref sig .tc .vmem S256x32x256 .f32) (arg3 : Memref sig .tc .vmem S256x32x256 .f32) (arg4 : Memref sig .tc .vmem S19x32x256 .f32) (arg5 : Memref sig .tc .vmem S19x32x256 .f32) (arg6 : Memref sig .tc .vmem S1x32x256 .i32) (arg7 : Memref sig .tc .vmem S1x32x256 .i32) (arg8 : Memref sig .tc .vmem S1x1 .f32) (arg9 : Memref sig .tc .vmem S256x19 .f32) (arg10 : Memref sig .tc .vmem S19x4 .f32) (arg11 : Memref sig .tc .vmem S256x256 .i32) (arg12 : Memref sig .tc .vmem S256x256 .i32) (arg13 : Memref sig .tc .vmem S19x256 .bf16) (arg14 : Memref sig .tc .vmem S19x1 .f32) (arg15 : Memref sig .tc .vmem S19x19 .f32) (arg16 : Memref sig .tc .vmem S19x19 .f32) (b : Blk F) (y : Vec F S1x1 .f32) (s : St F) : sProp 𝕄 :=
  iprop(owns (c : Thread nD τ) arg2 fullShare b.sf ∗ owns (c : Thread nD τ) arg3 fullShare b.tf ∗ owns (c : Thread nD τ) arg4 fullShare b.ss ∗ owns (c : Thread nD τ) arg5 fullShare b.ts ∗ owns (c : Thread nD τ) arg6 fullShare b.sw ∗ owns (c : Thread nD τ) arg7 fullShare b.tw ∗ owns (c : Thread nD τ) arg8 fullShare y ∗ owns (c : Thread nD τ) arg9 fullShare (s).num ∗ owns (c : Thread nD τ) arg10 fullShare (s).aux ∗ owns (c : Thread nD τ) arg11 fullShare (s).slab ∗ owns (c : Thread nD τ) arg12 fullShare (s).tlab ∗ owns (c : Thread nD τ) arg13 fullShare (s).cen ∗ owns (c : Thread nD τ) arg14 fullShare (s).c2 ∗ owns (c : Thread nD τ) arg15 fullShare (s).sd ∗ owns (c : Thread nD τ) arg16 fullShare (s).td)

/-- A load of a whole buffer holding `x` gives `x`. -/
theorem load_all {s : Shape} {e : EltTy} (m : Memref sig .tc .vmem s e) (h : m.IsWhole) (x : Vec F s e) {off : Fin s.rank → ℕ}
    (inb : ∀ a, off a + s.size a ≤ s.size a) :
    View.readAt (Elt F) m.view (Rect.unit off s.size inb).toLoadRect (h.unread x) = x :=
  (View.readAt_full _ _ _).trans (h.read_unread _)

/-- A load of column `k` of a buffer holding the per-class sums `x` gives that column. -/
theorem load_col (m : Memref sig .tc .vmem S19x4 .f32) (h : m.IsWhole) (x : Vec F S19x4 .f32) (k : Fin 4)
    (inb : ∀ a, (![0, k.val] : Fin 2 → ℕ) a + S19x1.size a ≤ S19x4.size a) :
    View.readAt (Elt F) m.view (Rect.unit (s := S19x4) ![0, k.val] S19x1.size inb).toLoadRect (h.unread x) = col k x := by
  funext y
  rw [h.readAt_unread]
  refine congrArg x (funext fun a => ?_)
  have h1 : (y 1).val = 0 := by have : (y 1).val < 1 := (y 1).isLt; omega
  fin_cases a
  · exact Fin.ext (by show 0 + 1 * (y 0).val = (y 0).val; omega)
  · exact Fin.ext (by show k.val + 1 * (y 1).val = k.val; omega)

/-- A load of 32 rows of a buffer holding the labels `x` gives those rows. -/
theorem load_rows (m : Memref sig .tc .vmem S256x256 .i32) (h : m.IsWhole) (x : Vec F S256x256 .i32) (o : Fin 2 → ℕ)
    (inb : ∀ a, o a + S32x256.size a ≤ S256x256.size a) :
    View.readAt (Elt F) m.view (Rect.unit (s := S256x256) o S32x256.size inb).toLoadRect (h.unread x) = getRows (F := F) o inb x := by
  funext y
  rw [h.readAt_unread]
  rfl

/-- A store of 32 rows at row `o` into a buffer holding the labels `x` replaces those rows. -/
theorem store_rows (m : Memref sig .tc .vmem S256x256 .i32) (h : m.IsWhole) (x : Vec F S256x256 .i32) (o : Fin 2 → ℕ) (h0 : o 1 = 0)
    (inb : ∀ a, o a + S32x256.size a ≤ S256x256.size a) (p : IVec S32x256 32) :
    View.read (Elt F) m.view (m.view.writes (Elt F) (h.unread x) [⟨Rect.unit (s := S256x256) o S32x256.size inb, p⟩]) = putRows (F := F) (o 0) p x := by
  have ho : o = ![o 0, 0] := by
    funext a
    fin_cases a
    · rfl
    · exact h0
  funext y
  by_cases hy : o 0 ≤ (y 0).val ∧ (y 0).val < o 0 + 32
  · obtain ⟨x', hx'⟩ : ∃ x' : S32x256.Idx, x' = fun a => ⟨(y a).val - (![o 0, 0] : Fin 2 → ℕ) a, putRows_lt y hy a⟩ := ⟨_, rfl⟩
    have e0 : (x' 0).val = (y 0).val - o 0 := by rw [hx']; rfl
    have e1 : (x' 1).val = (y 1).val := by rw [hx']; rfl
    rw [putRows_of_mem (o 0) p x y hy, ← hx']
    exact View.read_writes_cons_rows_of_mem (d := ![256, 256]) m.view (h.unread x) inb p [] y x' ho (by omega) (by omega)
  · rw [putRows_of_not_mem (o 0) p x y hy]
    exact (View.read_writes_cons_rows_of_not_mem (d := ![256, 256]) (W := 32) m.view (h.unread x) inb p [] y ho rfl (by omega)).trans
      (congrFun (h.read_unread x) y)

/-- The rows of a label buffer, the sizes written out. -/
theorem load_rows_lit (m : Memref sig .tc .vmem S256x256 .i32) (h : m.IsWhole) (x : Vec F S256x256 .i32) (o : Fin 2 → ℕ)
    (inb : ∀ a, o a + (![32, 256] : Fin 2 → ℕ) a ≤ S256x256.size a) :
    View.readAt (Elt F) m.view (Rect.unit (s := S256x256) o ![32, 256] inb).toLoadRect (h.unread x) = getRows (F := F) o inb x :=
  load_rows m h x o inb

/-- A load of column 0. -/
theorem load_col0 (m : Memref sig .tc .vmem S19x4 .f32) (h : m.IsWhole) (x : Vec F S19x4 .f32)
    (inb : ∀ a, (![0, 0] : Fin 2 → ℕ) a + S19x1.size a ≤ S19x4.size a) :
    View.readAt (Elt F) m.view (Rect.unit (s := S19x4) ![0, 0] S19x1.size inb).toLoadRect (h.unread x) = col 0 x :=
  load_col m h x 0 inb

/-- A load of column 1. -/
theorem load_col1 (m : Memref sig .tc .vmem S19x4 .f32) (h : m.IsWhole) (x : Vec F S19x4 .f32)
    (inb : ∀ a, (![0, 1] : Fin 2 → ℕ) a + S19x1.size a ≤ S19x4.size a) :
    View.readAt (Elt F) m.view (Rect.unit (s := S19x4) ![0, 1] S19x1.size inb).toLoadRect (h.unread x) = col 1 x :=
  load_col m h x 1 inb

/-- A load of column 2. -/
theorem load_col2 (m : Memref sig .tc .vmem S19x4 .f32) (h : m.IsWhole) (x : Vec F S19x4 .f32)
    (inb : ∀ a, (![0, 2] : Fin 2 → ℕ) a + S19x1.size a ≤ S19x4.size a) :
    View.readAt (Elt F) m.view (Rect.unit (s := S19x4) ![0, 2] S19x1.size inb).toLoadRect (h.unread x) = col 2 x :=
  load_col m h x 2 inb

/-- A load of column 3. -/
theorem load_col3 (m : Memref sig .tc .vmem S19x4 .f32) (h : m.IsWhole) (x : Vec F S19x4 .f32)
    (inb : ∀ a, (![0, 3] : Fin 2 → ℕ) a + S19x1.size a ≤ S19x4.size a) :
    View.readAt (Elt F) m.view (Rect.unit (s := S19x4) ![0, 3] S19x1.size inb).toLoadRect (h.unread x) = col 3 x :=
  load_col m h x 3 inb

/-- Column 0, the sizes written out. -/
theorem load_col0_lit (m : Memref sig .tc .vmem S19x4 .f32) (h : m.IsWhole) (x : Vec F S19x4 .f32)
    (inb : ∀ a, (![0, 0] : Fin 2 → ℕ) a + (![19, 1] : Fin 2 → ℕ) a ≤ S19x4.size a) :
    View.readAt (Elt F) m.view (Rect.unit (s := S19x4) ![0, 0] ![19, 1] inb).toLoadRect (h.unread x) = col 0 x :=
  load_col m h x 0 inb

/-- Column 1, the sizes written out. -/
theorem load_col1_lit (m : Memref sig .tc .vmem S19x4 .f32) (h : m.IsWhole) (x : Vec F S19x4 .f32)
    (inb : ∀ a, (![0, 1] : Fin 2 → ℕ) a + (![19, 1] : Fin 2 → ℕ) a ≤ S19x4.size a) :
    View.readAt (Elt F) m.view (Rect.unit (s := S19x4) ![0, 1] ![19, 1] inb).toLoadRect (h.unread x) = col 1 x :=
  load_col m h x 1 inb

/-- A load of a whole buffer just stored whole gives what was stored. -/
theorem cov_all {s : Shape} {e : EltTy} (v : View sig .tc .vmem s e) {off off' : Fin s.rank → ℕ}
    (inb : ∀ a, off a + s.size a ≤ s.size a) (inb' : ∀ a, off' a + s.size a ≤ s.size a) (w : s.Idx → Elt F e) (L : List (View.Piece (Elt F) s e)) :
    v.readCov (⟨Rect.unit off' s.size inb', w⟩ :: L) (Rect.unit off s.size inb).toLoadRect = w :=
  View.readCov_full v inb inb' w L

/-- A load of all of a matrix held by a buffer, its sizes written out. -/
theorem load_two {a b : ℕ} {e : EltTy} (m : Memref sig .tc .vmem ⟨2, ![a, b]⟩ e) (h : m.IsWhole) (x : Vec F ⟨2, ![a, b]⟩ e)
    {off : Fin 2 → ℕ} (inb : ∀ k, off k + (![a, b] : Fin 2 → ℕ) k ≤ (![a, b] : Fin 2 → ℕ) k) :
    View.readAt (Elt F) m.view (Rect.unit (s := ⟨2, ![a, b]⟩) off ![a, b] inb).toLoadRect (h.unread x) = x :=
  load_all m h x inb

/-- The same of a block with three axes. -/
theorem load_three {a b d : ℕ} {e : EltTy} (m : Memref sig .tc .vmem ⟨3, ![a, b, d]⟩ e) (h : m.IsWhole) (x : Vec F ⟨3, ![a, b, d]⟩ e)
    {off : Fin 3 → ℕ} (inb : ∀ k, off k + (![a, b, d] : Fin 3 → ℕ) k ≤ (![a, b, d] : Fin 3 → ℕ) k) :
    View.readAt (Elt F) m.view (Rect.unit (s := ⟨3, ![a, b, d]⟩) off ![a, b, d] inb).toLoadRect (h.unread x) = x :=
  load_all m h x inb

/-- A load of a matrix just stored whole gives what was stored, its sizes written out. -/
theorem cov_two {a b : ℕ} {e : EltTy} (v : View sig .tc .vmem ⟨2, ![a, b]⟩ e) {off off' : Fin 2 → ℕ}
    (inb : ∀ k, off k + (![a, b] : Fin 2 → ℕ) k ≤ (![a, b] : Fin 2 → ℕ) k)
    (inb' : ∀ k, off' k + (![a, b] : Fin 2 → ℕ) k ≤ (![a, b] : Fin 2 → ℕ) k) (w : (⟨2, ![a, b]⟩ : Shape).Idx → Elt F e)
    (L : List (View.Piece (Elt F) ⟨2, ![a, b]⟩ e)) :
    v.readCov (⟨Rect.unit (s := ⟨2, ![a, b]⟩) off' ![a, b] inb', w⟩ :: L) (Rect.unit (s := ⟨2, ![a, b]⟩) off ![a, b] inb).toLoadRect = w :=
  cov_all v inb inb' w L

/-- Column 2, the sizes written out. -/
theorem load_col2_lit (m : Memref sig .tc .vmem S19x4 .f32) (h : m.IsWhole) (x : Vec F S19x4 .f32)
    (inb : ∀ a, (![0, 2] : Fin 2 → ℕ) a + (![19, 1] : Fin 2 → ℕ) a ≤ S19x4.size a) :
    View.readAt (Elt F) m.view (Rect.unit (s := S19x4) ![0, 2] ![19, 1] inb).toLoadRect (h.unread x) = col 2 x :=
  load_col m h x 2 inb

/-- Column 3, the sizes written out. -/
theorem load_col3_lit (m : Memref sig .tc .vmem S19x4 .f32) (h : m.IsWhole) (x : Vec F S19x4 .f32)
    (inb : ∀ a, (![0, 3] : Fin 2 → ℕ) a + (![19, 1] : Fin 2 → ℕ) a ≤ S19x4.size a) :
    View.readAt (Elt F) m.view (Rect.unit (s := S19x4) ![0, 3] ![19, 1] inb).toLoadRect (h.unread x) = col 3 x :=
  load_col m h x 3 inb

/-- Column 1 of the rows a first-pass point stores at is column 0 of the buffer. -/
theorem off1_one (i : grid0.Coords) : k0_off1 i 1 = 0 := rfl

set_option maxHeartbeats 1000000 in
/-- The very first point. -/
theorem run_A (c : Dev nD) (i : grid0.Coords) (arg2 : Memref sig .tc .vmem S256x32x256 .f32) (harg2 : arg2.IsWhole) (arg3 : Memref sig .tc .vmem S256x32x256 .f32) (harg3 : arg3.IsWhole) (arg4 : Memref sig .tc .vmem S19x32x256 .f32) (harg4 : arg4.IsWhole) (arg5 : Memref sig .tc .vmem S19x32x256 .f32) (harg5 : arg5.IsWhole) (arg6 : Memref sig .tc .vmem S1x32x256 .i32) (harg6 : arg6.IsWhole) (arg7 : Memref sig .tc .vmem S1x32x256 .i32) (harg7 : arg7.IsWhole) (arg8 : Memref sig .tc .vmem S1x1 .f32) (harg8 : arg8.IsWhole) (arg9 : Memref sig .tc .vmem S256x19 .f32) (harg9 : arg9.IsWhole) (arg10 : Memref sig .tc .vmem S19x4 .f32) (harg10 : arg10.IsWhole) (arg11 : Memref sig .tc .vmem S256x256 .i32) (harg11 : arg11.IsWhole) (arg12 : Memref sig .tc .vmem S256x256 .i32) (harg12 : arg12.IsWhole) (arg13 : Memref sig .tc .vmem S19x256 .bf16) (harg13 : arg13.IsWhole) (arg14 : Memref sig .tc .vmem S19x1 .f32) (harg14 : arg14.IsWhole) (arg15 : Memref sig .tc .vmem S19x19 .f32) (harg15 : arg15.IsWhole) (arg16 : Memref sig .tc .vmem S19x19 .f32) (harg16 : arg16.IsWhole)
    (h0 : atFirst i) (h1 : inPass1 i) (h2 : ¬atTurn i) (h3 : ¬inPass2 i) (h4 : ¬atLast i) (b : Blk F) (y : Vec F S1x1 .f32) (s : St F) (E : Set ℕ) (K : PUnit → sProp 𝕄) :
    iprop(holds c arg2 arg3 arg4 arg5 arg6 arg7 arg8 arg9 arg10 arg11 arg12 arg13 arg14 arg15 arg16 b y s ∗ (holds c arg2 arg3 arg4 arg5 arg6 arg7 arg8 arg9 arg10 arg11 arg12 arg13 arg14 arg15 arg16 b y (pass1 i b (cleared s)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold holds
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact h0 | sl_exact h1 | sl_exact h2 | sl_exact h3 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro; refine (View.read_writes_full _ _ _ _ _).trans ?_
    repeat (first | delta run_A.sl.r_14 | delta run_A.sl.v302 | delta run_A.sl.r_17 | delta run_A.sl.r_15 | delta run_A.sl.r_9 | delta run_A.sl.r_12 | delta run_A.sl.r_8 | delta run_A.sl.r_7 | delta run_A.sl.r_13 | delta run_A.sl.r_10 | delta run_A.sl.H9_1 | delta run_A.sl.r_5 | delta run_A.sl.r_3 | delta run_A.sl.r_2 | delta run_A.sl.r_19 | delta run_A.sl.r | delta run_A.sl.r_4 | delta run_A.sl.H10_1 | delta run_A.sl.r_16 | delta run_A.sl.r_6 | delta run_A.sl.r_18 | delta run_A.sl.r_11 | delta run_A.sl.r_1 | delta run_A.sl.v297)
    try simp only [load_all, load_two, load_three, load_rows, load_rows_lit, load_col0, load_col1, load_col2, load_col3, load_col0_lit, load_col1_lit, load_col2_lit, load_col3_lit, cov_all, cov_two]
    rfl
  isplitl [H10]
  · iexists _; isplitr; swap; · iexact H10
    ipureintro; refine (View.read_writes_full _ _ _ _ _).trans ?_
    repeat (first | delta run_A.sl.r_14 | delta run_A.sl.v302 | delta run_A.sl.r_17 | delta run_A.sl.r_15 | delta run_A.sl.r_9 | delta run_A.sl.r_12 | delta run_A.sl.r_8 | delta run_A.sl.r_7 | delta run_A.sl.r_13 | delta run_A.sl.r_10 | delta run_A.sl.H9_1 | delta run_A.sl.r_5 | delta run_A.sl.r_3 | delta run_A.sl.r_2 | delta run_A.sl.r_19 | delta run_A.sl.r | delta run_A.sl.r_4 | delta run_A.sl.H10_1 | delta run_A.sl.r_16 | delta run_A.sl.r_6 | delta run_A.sl.r_18 | delta run_A.sl.r_11 | delta run_A.sl.r_1 | delta run_A.sl.v297)
    try simp only [load_all, load_two, load_three, load_rows, load_rows_lit, load_col0, load_col1, load_col2, load_col3, load_col0_lit, load_col1_lit, load_col2_lit, load_col3_lit, cov_all, cov_two]
    rfl
  isplitl [H11]
  · iexists _; isplitr; swap; · iexact H11
    ipureintro; refine (store_rows arg11 harg11 _ _ (off1_one i) _ _).trans ?_
    repeat (first | delta run_A.sl.r_14 | delta run_A.sl.v302 | delta run_A.sl.r_17 | delta run_A.sl.r_15 | delta run_A.sl.r_9 | delta run_A.sl.r_12 | delta run_A.sl.r_8 | delta run_A.sl.r_7 | delta run_A.sl.r_13 | delta run_A.sl.r_10 | delta run_A.sl.H9_1 | delta run_A.sl.r_5 | delta run_A.sl.r_3 | delta run_A.sl.r_2 | delta run_A.sl.r_19 | delta run_A.sl.r | delta run_A.sl.r_4 | delta run_A.sl.H10_1 | delta run_A.sl.r_16 | delta run_A.sl.r_6 | delta run_A.sl.r_18 | delta run_A.sl.r_11 | delta run_A.sl.r_1 | delta run_A.sl.v297)
    try simp only [load_all, load_two, load_three, load_rows, load_rows_lit, load_col0, load_col1, load_col2, load_col3, load_col0_lit, load_col1_lit, load_col2_lit, load_col3_lit, cov_all, cov_two]
    rfl
  isplitl [H12]
  · iexists _; isplitr; swap; · iexact H12
    ipureintro; refine (store_rows arg12 harg12 _ _ (off1_one i) _ _).trans ?_
    repeat (first | delta run_A.sl.r_14 | delta run_A.sl.v302 | delta run_A.sl.r_17 | delta run_A.sl.r_15 | delta run_A.sl.r_9 | delta run_A.sl.r_12 | delta run_A.sl.r_8 | delta run_A.sl.r_7 | delta run_A.sl.r_13 | delta run_A.sl.r_10 | delta run_A.sl.H9_1 | delta run_A.sl.r_5 | delta run_A.sl.r_3 | delta run_A.sl.r_2 | delta run_A.sl.r_19 | delta run_A.sl.r | delta run_A.sl.r_4 | delta run_A.sl.H10_1 | delta run_A.sl.r_16 | delta run_A.sl.r_6 | delta run_A.sl.r_18 | delta run_A.sl.r_11 | delta run_A.sl.r_1 | delta run_A.sl.v297)
    try simp only [load_all, load_two, load_three, load_rows, load_rows_lit, load_col0, load_col1, load_col2, load_col3, load_col0_lit, load_col1_lit, load_col2_lit, load_col3_lit, cov_all, cov_two]
    rfl
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; refine (View.read_writes_full _ _ _ _ _).trans ?_
    repeat (first | delta run_A.sl.r_14 | delta run_A.sl.v302 | delta run_A.sl.r_17 | delta run_A.sl.r_15 | delta run_A.sl.r_9 | delta run_A.sl.r_12 | delta run_A.sl.r_8 | delta run_A.sl.r_7 | delta run_A.sl.r_13 | delta run_A.sl.r_10 | delta run_A.sl.H9_1 | delta run_A.sl.r_5 | delta run_A.sl.r_3 | delta run_A.sl.r_2 | delta run_A.sl.r_19 | delta run_A.sl.r | delta run_A.sl.r_4 | delta run_A.sl.H10_1 | delta run_A.sl.r_16 | delta run_A.sl.r_6 | delta run_A.sl.r_18 | delta run_A.sl.r_11 | delta run_A.sl.r_1 | delta run_A.sl.v297)
    try simp only [load_all, load_two, load_three, load_rows, load_rows_lit, load_col0, load_col1, load_col2, load_col3, load_col0_lit, load_col1_lit, load_col2_lit, load_col3_lit, cov_all, cov_two]
    rfl
  iexists _; isplitr; swap; · iexact H16
  ipureintro; refine (View.read_writes_full _ _ _ _ _).trans ?_
  repeat (first | delta run_A.sl.r_14 | delta run_A.sl.v302 | delta run_A.sl.r_17 | delta run_A.sl.r_15 | delta run_A.sl.r_9 | delta run_A.sl.r_12 | delta run_A.sl.r_8 | delta run_A.sl.r_7 | delta run_A.sl.r_13 | delta run_A.sl.r_10 | delta run_A.sl.H9_1 | delta run_A.sl.r_5 | delta run_A.sl.r_3 | delta run_A.sl.r_2 | delta run_A.sl.r_19 | delta run_A.sl.r | delta run_A.sl.r_4 | delta run_A.sl.H10_1 | delta run_A.sl.r_16 | delta run_A.sl.r_6 | delta run_A.sl.r_18 | delta run_A.sl.r_11 | delta run_A.sl.r_1 | delta run_A.sl.v297)
  try simp only [load_all, load_two, load_three, load_rows, load_rows_lit, load_col0, load_col1, load_col2, load_col3, load_col0_lit, load_col1_lit, load_col2_lit, load_col3_lit, cov_all, cov_two]
  rfl

set_option maxHeartbeats 1000000 in
/-- The other points of the first pass. -/
theorem run_B (c : Dev nD) (i : grid0.Coords) (arg2 : Memref sig .tc .vmem S256x32x256 .f32) (harg2 : arg2.IsWhole) (arg3 : Memref sig .tc .vmem S256x32x256 .f32) (harg3 : arg3.IsWhole) (arg4 : Memref sig .tc .vmem S19x32x256 .f32) (harg4 : arg4.IsWhole) (arg5 : Memref sig .tc .vmem S19x32x256 .f32) (harg5 : arg5.IsWhole) (arg6 : Memref sig .tc .vmem S1x32x256 .i32) (harg6 : arg6.IsWhole) (arg7 : Memref sig .tc .vmem S1x32x256 .i32) (harg7 : arg7.IsWhole) (arg8 : Memref sig .tc .vmem S1x1 .f32) (harg8 : arg8.IsWhole) (arg9 : Memref sig .tc .vmem S256x19 .f32) (harg9 : arg9.IsWhole) (arg10 : Memref sig .tc .vmem S19x4 .f32) (harg10 : arg10.IsWhole) (arg11 : Memref sig .tc .vmem S256x256 .i32) (harg11 : arg11.IsWhole) (arg12 : Memref sig .tc .vmem S256x256 .i32) (harg12 : arg12.IsWhole) (arg13 : Memref sig .tc .vmem S19x256 .bf16) (harg13 : arg13.IsWhole) (arg14 : Memref sig .tc .vmem S19x1 .f32) (harg14 : arg14.IsWhole) (arg15 : Memref sig .tc .vmem S19x19 .f32) (harg15 : arg15.IsWhole) (arg16 : Memref sig .tc .vmem S19x19 .f32) (harg16 : arg16.IsWhole)
    (h0 : ¬atFirst i) (h1 : inPass1 i) (h2 : ¬atTurn i) (h3 : ¬inPass2 i) (h4 : ¬atLast i) (b : Blk F) (y : Vec F S1x1 .f32) (s : St F) (E : Set ℕ) (K : PUnit → sProp 𝕄) :
    iprop(holds c arg2 arg3 arg4 arg5 arg6 arg7 arg8 arg9 arg10 arg11 arg12 arg13 arg14 arg15 arg16 b y s ∗ (holds c arg2 arg3 arg4 arg5 arg6 arg7 arg8 arg9 arg10 arg11 arg12 arg13 arg14 arg15 arg16 b y (pass1 i b s) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold holds
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact h0 | sl_exact h1 | sl_exact h2 | sl_exact h3 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro; refine (View.read_writes_full _ _ _ _ _).trans ?_
    repeat (first | delta run_B.sl.r_12 | delta run_B.sl.r_8 | delta run_B.sl.r_7 | delta run_B.sl.r_13 | delta run_B.sl.r_10 | delta run_B.sl.r_17 | delta run_B.sl.r_15 | delta run_B.sl.r_9 | delta run_B.sl.r_20 | delta run_B.sl.r_5 | delta run_B.sl.r_16 | delta run_B.sl.r_6 | delta run_B.sl.r_3 | delta run_B.sl.r_2 | delta run_B.sl.r_11 | delta run_B.sl.r_1 | delta run_B.sl.r_19 | delta run_B.sl.r | delta run_B.sl.r_4 | delta run_B.sl.r_14 | delta run_B.sl.r_18)
    try simp only [load_all, load_two, load_three, load_rows, load_rows_lit, load_col0, load_col1, load_col2, load_col3, load_col0_lit, load_col1_lit, load_col2_lit, load_col3_lit]
    rfl
  isplitl [H10]
  · iexists _; isplitr; swap; · iexact H10
    ipureintro; refine (View.read_writes_full _ _ _ _ _).trans ?_
    repeat (first | delta run_B.sl.r_12 | delta run_B.sl.r_8 | delta run_B.sl.r_7 | delta run_B.sl.r_13 | delta run_B.sl.r_10 | delta run_B.sl.r_17 | delta run_B.sl.r_15 | delta run_B.sl.r_9 | delta run_B.sl.r_20 | delta run_B.sl.r_5 | delta run_B.sl.r_16 | delta run_B.sl.r_6 | delta run_B.sl.r_3 | delta run_B.sl.r_2 | delta run_B.sl.r_11 | delta run_B.sl.r_1 | delta run_B.sl.r_19 | delta run_B.sl.r | delta run_B.sl.r_4 | delta run_B.sl.r_14 | delta run_B.sl.r_18)
    try simp only [load_all, load_two, load_three, load_rows, load_rows_lit, load_col0, load_col1, load_col2, load_col3, load_col0_lit, load_col1_lit, load_col2_lit, load_col3_lit]
    rfl
  isplitl [H11]
  · iexists _; isplitr; swap; · iexact H11
    ipureintro; refine (store_rows arg11 harg11 _ _ (off1_one i) _ _).trans ?_
    repeat (first | delta run_B.sl.r_12 | delta run_B.sl.r_8 | delta run_B.sl.r_7 | delta run_B.sl.r_13 | delta run_B.sl.r_10 | delta run_B.sl.r_17 | delta run_B.sl.r_15 | delta run_B.sl.r_9 | delta run_B.sl.r_20 | delta run_B.sl.r_5 | delta run_B.sl.r_16 | delta run_B.sl.r_6 | delta run_B.sl.r_3 | delta run_B.sl.r_2 | delta run_B.sl.r_11 | delta run_B.sl.r_1 | delta run_B.sl.r_19 | delta run_B.sl.r | delta run_B.sl.r_4 | delta run_B.sl.r_14 | delta run_B.sl.r_18)
    try simp only [load_all, load_two, load_three, load_rows, load_rows_lit, load_col0, load_col1, load_col2, load_col3, load_col0_lit, load_col1_lit, load_col2_lit, load_col3_lit]
    rfl
  isplitl [H12]
  · iexists _; isplitr; swap; · iexact H12
    ipureintro; refine (store_rows arg12 harg12 _ _ (off1_one i) _ _).trans ?_
    repeat (first | delta run_B.sl.r_12 | delta run_B.sl.r_8 | delta run_B.sl.r_7 | delta run_B.sl.r_13 | delta run_B.sl.r_10 | delta run_B.sl.r_17 | delta run_B.sl.r_15 | delta run_B.sl.r_9 | delta run_B.sl.r_20 | delta run_B.sl.r_5 | delta run_B.sl.r_16 | delta run_B.sl.r_6 | delta run_B.sl.r_3 | delta run_B.sl.r_2 | delta run_B.sl.r_11 | delta run_B.sl.r_1 | delta run_B.sl.r_19 | delta run_B.sl.r | delta run_B.sl.r_4 | delta run_B.sl.r_14 | delta run_B.sl.r_18)
    try simp only [load_all, load_two, load_three, load_rows, load_rows_lit, load_col0, load_col1, load_col2, load_col3, load_col0_lit, load_col1_lit, load_col2_lit, load_col3_lit]
    rfl
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; · ipureintro; exact harg16.read_unread _
  iexact H16

set_option maxHeartbeats 1000000 in
/-- The first point of the second pass. -/
theorem run_C (c : Dev nD) (i : grid0.Coords) (arg2 : Memref sig .tc .vmem S256x32x256 .f32) (harg2 : arg2.IsWhole) (arg3 : Memref sig .tc .vmem S256x32x256 .f32) (harg3 : arg3.IsWhole) (arg4 : Memref sig .tc .vmem S19x32x256 .f32) (harg4 : arg4.IsWhole) (arg5 : Memref sig .tc .vmem S19x32x256 .f32) (harg5 : arg5.IsWhole) (arg6 : Memref sig .tc .vmem S1x32x256 .i32) (harg6 : arg6.IsWhole) (arg7 : Memref sig .tc .vmem S1x32x256 .i32) (harg7 : arg7.IsWhole) (arg8 : Memref sig .tc .vmem S1x1 .f32) (harg8 : arg8.IsWhole) (arg9 : Memref sig .tc .vmem S256x19 .f32) (harg9 : arg9.IsWhole) (arg10 : Memref sig .tc .vmem S19x4 .f32) (harg10 : arg10.IsWhole) (arg11 : Memref sig .tc .vmem S256x256 .i32) (harg11 : arg11.IsWhole) (arg12 : Memref sig .tc .vmem S256x256 .i32) (harg12 : arg12.IsWhole) (arg13 : Memref sig .tc .vmem S19x256 .bf16) (harg13 : arg13.IsWhole) (arg14 : Memref sig .tc .vmem S19x1 .f32) (harg14 : arg14.IsWhole) (arg15 : Memref sig .tc .vmem S19x19 .f32) (harg15 : arg15.IsWhole) (arg16 : Memref sig .tc .vmem S19x19 .f32) (harg16 : arg16.IsWhole)
    (h0 : ¬atFirst i) (h1 : ¬inPass1 i) (h2 : atTurn i) (h3 : inPass2 i) (h4 : ¬atLast i) (b : Blk F) (y : Vec F S1x1 .f32) (s : St F) (E : Set ℕ) (K : PUnit → sProp 𝕄) :
    iprop(holds c arg2 arg3 arg4 arg5 arg6 arg7 arg8 arg9 arg10 arg11 arg12 arg13 arg14 arg15 arg16 b y s ∗ (holds c arg2 arg3 arg4 arg5 arg6 arg7 arg8 arg9 arg10 arg11 arg12 arg13 arg14 arg15 arg16 b y (pass2 i h3 b (centred s)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold holds
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact h0 | sl_exact h1 | sl_exact h2 | sl_exact h3 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro; refine (View.read_writes_full _ _ _ _ _).trans ?_
    repeat (first | delta run_C.sl.v66 | delta run_C.sl.v26 | delta run_C.sl.H14_1 | delta run_C.sl.v25 | delta run_C.sl.H13_1 | delta run_C.sl.r)
    try simp only [load_all, load_two, load_three, load_rows, load_rows_lit, load_col0, load_col1, load_col2, load_col3, load_col0_lit, load_col1_lit, load_col2_lit, load_col3_lit, cov_all, cov_two]
    rfl
  isplitl [H14]
  · iexists _; isplitr; swap; · iexact H14
    ipureintro; refine (View.read_writes_full _ _ _ _ _).trans ?_
    repeat (first | delta run_C.sl.v66 | delta run_C.sl.v26 | delta run_C.sl.H14_1 | delta run_C.sl.v25 | delta run_C.sl.H13_1 | delta run_C.sl.r)
    try simp only [load_all, load_two, load_three, load_rows, load_rows_lit, load_col0, load_col1, load_col2, load_col3, load_col0_lit, load_col1_lit, load_col2_lit, load_col3_lit, cov_all, cov_two]
    rfl
  isplitl [H15]
  · iexists _; isplitr; swap; · iexact H15
    ipureintro; refine (View.read_writes_full _ _ _ _ _).trans ?_
    repeat (first | delta run_C.sl.v66 | delta run_C.sl.v26 | delta run_C.sl.H14_1 | delta run_C.sl.v25 | delta run_C.sl.H13_1 | delta run_C.sl.r)
    try simp only [load_all, load_two, load_three, load_rows, load_rows_lit, load_col0, load_col1, load_col2, load_col3, load_col0_lit, load_col1_lit, load_col2_lit, load_col3_lit, cov_all, cov_two]
    rfl
  iexists _; isplitr; swap; · iexact H16
  ipureintro; refine (View.read_writes_full _ _ _ _ _).trans ?_
  repeat (first | delta run_C.sl.v66 | delta run_C.sl.v26 | delta run_C.sl.H14_1 | delta run_C.sl.v25 | delta run_C.sl.H13_1 | delta run_C.sl.r)
  try simp only [load_all, load_two, load_three, load_rows, load_rows_lit, load_col0, load_col1, load_col2, load_col3, load_col0_lit, load_col1_lit, load_col2_lit, load_col3_lit, cov_all, cov_two]
  rfl

set_option maxHeartbeats 1000000 in
/-- The points inside the second pass. -/
theorem run_D (c : Dev nD) (i : grid0.Coords) (arg2 : Memref sig .tc .vmem S256x32x256 .f32) (harg2 : arg2.IsWhole) (arg3 : Memref sig .tc .vmem S256x32x256 .f32) (harg3 : arg3.IsWhole) (arg4 : Memref sig .tc .vmem S19x32x256 .f32) (harg4 : arg4.IsWhole) (arg5 : Memref sig .tc .vmem S19x32x256 .f32) (harg5 : arg5.IsWhole) (arg6 : Memref sig .tc .vmem S1x32x256 .i32) (harg6 : arg6.IsWhole) (arg7 : Memref sig .tc .vmem S1x32x256 .i32) (harg7 : arg7.IsWhole) (arg8 : Memref sig .tc .vmem S1x1 .f32) (harg8 : arg8.IsWhole) (arg9 : Memref sig .tc .vmem S256x19 .f32) (harg9 : arg9.IsWhole) (arg10 : Memref sig .tc .vmem S19x4 .f32) (harg10 : arg10.IsWhole) (arg11 : Memref sig .tc .vmem S256x256 .i32) (harg11 : arg11.IsWhole) (arg12 : Memref sig .tc .vmem S256x256 .i32) (harg12 : arg12.IsWhole) (arg13 : Memref sig .tc .vmem S19x256 .bf16) (harg13 : arg13.IsWhole) (arg14 : Memref sig .tc .vmem S19x1 .f32) (harg14 : arg14.IsWhole) (arg15 : Memref sig .tc .vmem S19x19 .f32) (harg15 : arg15.IsWhole) (arg16 : Memref sig .tc .vmem S19x19 .f32) (harg16 : arg16.IsWhole)
    (h0 : ¬atFirst i) (h1 : ¬inPass1 i) (h2 : ¬atTurn i) (h3 : inPass2 i) (h4 : ¬atLast i) (b : Blk F) (y : Vec F S1x1 .f32) (s : St F) (E : Set ℕ) (K : PUnit → sProp 𝕄) :
    iprop(holds c arg2 arg3 arg4 arg5 arg6 arg7 arg8 arg9 arg10 arg11 arg12 arg13 arg14 arg15 arg16 b y s ∗ (holds c arg2 arg3 arg4 arg5 arg6 arg7 arg8 arg9 arg10 arg11 arg12 arg13 arg14 arg15 arg16 b y (pass2 i h3 b s) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold holds
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact h0 | sl_exact h1 | sl_exact h2 | sl_exact h3 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; refine (View.read_writes_full _ _ _ _ _).trans ?_
    repeat (first | delta run_D.sl.v66 | delta run_D.sl.r_2 | delta run_D.sl.r | delta run_D.sl.r_1)
    try simp only [load_all, load_two, load_three, load_rows, load_rows_lit, load_col0, load_col1, load_col2, load_col3, load_col0_lit, load_col1_lit, load_col2_lit, load_col3_lit]
    rfl
  iexists _; isplitr; swap; · iexact H16
  ipureintro; refine (View.read_writes_full _ _ _ _ _).trans ?_
  repeat (first | delta run_D.sl.v66 | delta run_D.sl.r_2 | delta run_D.sl.r | delta run_D.sl.r_1)
  try simp only [load_all, load_two, load_three, load_rows, load_rows_lit, load_col0, load_col1, load_col2, load_col3, load_col0_lit, load_col1_lit, load_col2_lit, load_col3_lit]
  rfl

set_option maxHeartbeats 1000000 in
/-- The last point. -/
theorem run_E (c : Dev nD) (i : grid0.Coords) (arg2 : Memref sig .tc .vmem S256x32x256 .f32) (harg2 : arg2.IsWhole) (arg3 : Memref sig .tc .vmem S256x32x256 .f32) (harg3 : arg3.IsWhole) (arg4 : Memref sig .tc .vmem S19x32x256 .f32) (harg4 : arg4.IsWhole) (arg5 : Memref sig .tc .vmem S19x32x256 .f32) (harg5 : arg5.IsWhole) (arg6 : Memref sig .tc .vmem S1x32x256 .i32) (harg6 : arg6.IsWhole) (arg7 : Memref sig .tc .vmem S1x32x256 .i32) (harg7 : arg7.IsWhole) (arg8 : Memref sig .tc .vmem S1x1 .f32) (harg8 : arg8.IsWhole) (arg9 : Memref sig .tc .vmem S256x19 .f32) (harg9 : arg9.IsWhole) (arg10 : Memref sig .tc .vmem S19x4 .f32) (harg10 : arg10.IsWhole) (arg11 : Memref sig .tc .vmem S256x256 .i32) (harg11 : arg11.IsWhole) (arg12 : Memref sig .tc .vmem S256x256 .i32) (harg12 : arg12.IsWhole) (arg13 : Memref sig .tc .vmem S19x256 .bf16) (harg13 : arg13.IsWhole) (arg14 : Memref sig .tc .vmem S19x1 .f32) (harg14 : arg14.IsWhole) (arg15 : Memref sig .tc .vmem S19x19 .f32) (harg15 : arg15.IsWhole) (arg16 : Memref sig .tc .vmem S19x19 .f32) (harg16 : arg16.IsWhole)
    (h0 : ¬atFirst i) (h1 : ¬inPass1 i) (h2 : ¬atTurn i) (h3 : inPass2 i) (h4 : atLast i) (b : Blk F) (y : Vec F S1x1 .f32) (s : St F) (E : Set ℕ) (K : PUnit → sProp 𝕄) :
    iprop(holds c arg2 arg3 arg4 arg5 arg6 arg7 arg8 arg9 arg10 arg11 arg12 arg13 arg14 arg15 arg16 b y s ∗ (holds c arg2 arg3 arg4 arg5 arg6 arg7 arg8 arg9 arg10 arg11 arg12 arg13 arg14 arg15 arg16 b (lossOf (pass2 i h3 b s)) (pass2 i h3 b s) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold holds
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact h0 | sl_exact h1 | sl_exact h2 | sl_exact h3 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; refine (View.read_writes_full _ _ _ _ _).trans ?_
    repeat (first | delta run_E.sl.r_5 | delta run_E.sl.cst_27 | delta run_E.sl.H16_1 | delta run_E.sl.r_9 | delta run_E.sl.r_10 | delta run_E.sl.r_7 | delta run_E.sl.r_8 | delta run_E.sl.H15_1 | delta run_E.sl.v33 | delta run_E.sl.r_12 | delta run_E.sl.v76 | delta run_E.sl.r_4 | delta run_E.sl.cst_26 | delta run_E.sl.r | delta run_E.sl.r_11 | delta run_E.sl.r_1 | delta run_E.sl.r_2 | delta run_E.sl.r_3 | delta run_E.sl.r_6 | delta run_E.sl.v66)
    try simp only [load_all, load_two, load_three, load_rows, load_rows_lit, load_col0, load_col1, load_col2, load_col3, load_col0_lit, load_col1_lit, load_col2_lit, load_col3_lit, cov_all, cov_two]
    rfl
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; refine (View.read_writes_full _ _ _ _ _).trans ?_
    repeat (first | delta run_E.sl.r_5 | delta run_E.sl.cst_27 | delta run_E.sl.H16_1 | delta run_E.sl.r_9 | delta run_E.sl.r_10 | delta run_E.sl.r_7 | delta run_E.sl.r_8 | delta run_E.sl.H15_1 | delta run_E.sl.v33 | delta run_E.sl.r_12 | delta run_E.sl.v76 | delta run_E.sl.r_4 | delta run_E.sl.cst_26 | delta run_E.sl.r | delta run_E.sl.r_11 | delta run_E.sl.r_1 | delta run_E.sl.r_2 | delta run_E.sl.r_3 | delta run_E.sl.r_6 | delta run_E.sl.v66)
    try simp only [load_all, load_two, load_three, load_rows, load_rows_lit, load_col0, load_col1, load_col2, load_col3, load_col0_lit, load_col1_lit, load_col2_lit, load_col3_lit, cov_all, cov_two]
    rfl
  iexists _; isplitr; swap; · iexact H16
  ipureintro; refine (View.read_writes_full _ _ _ _ _).trans ?_
  repeat (first | delta run_E.sl.r_5 | delta run_E.sl.cst_27 | delta run_E.sl.H16_1 | delta run_E.sl.r_9 | delta run_E.sl.r_10 | delta run_E.sl.r_7 | delta run_E.sl.r_8 | delta run_E.sl.H15_1 | delta run_E.sl.v33 | delta run_E.sl.r_12 | delta run_E.sl.v76 | delta run_E.sl.r_4 | delta run_E.sl.cst_26 | delta run_E.sl.r | delta run_E.sl.r_11 | delta run_E.sl.r_1 | delta run_E.sl.r_2 | delta run_E.sl.r_3 | delta run_E.sl.r_6 | delta run_E.sl.v66)
  try simp only [load_all, load_two, load_three, load_rows, load_rows_lit, load_col0, load_col1, load_col2, load_col3, load_col0_lit, load_col1_lit, load_col2_lit, load_col3_lit, cov_all, cov_two]
  rfl

end Cert.KernelIdeal.Pass
-- ==== Proof.KState.lean ====
/- The scratch after each grid point, and that the loss at the end does not depend on what it held at the start. -/
module

public import proofs.«01_k».proof.Proof.KModel

@[expose] public section

set_option maxRecDepth 16384

noncomputable section

namespace Cert.KernelIdeal.Pass

open Idealize.ShloMosaic Idealize.ShloMosaic.TcCoe Idealize.ShloMosaic.ValueIdx Cert.KernelIdeal.Gen

variable {F : FTy → Type} [FloatOps F]

/-- The scratch before point `n`, the input blocks being `B` and the scratch having started as `s0`. -/
def stAt (B : Fin grid0.N → Blk F) (s0 : St F) : ℕ → St F
  | 0 => s0
  | n + 1 => if h : n < grid0.N then step (grid0.coords ⟨n, h⟩) (B ⟨n, h⟩) (stAt B s0 n) else stAt B s0 n

/-- One more point is one more step. -/
theorem stAt_succ (B : Fin grid0.N → Blk F) (s0 : St F) (t : Fin grid0.N) :
    stAt B s0 (t.val + 1) = step (grid0.coords t) (B t) (stAt B s0 t.val) := dif_pos t.isLt

/-- The step at point 0. -/
theorem step_first (t : Fin grid0.N) (h : t.val = 0) (b : Blk F) (s : St F) :
    step (grid0.coords t) b s = pass1 (grid0.coords t) b (cleared s) := by
  unfold step
  rw [dif_neg (fun h' => by have := (inPass2_iff t).mp h'; omega), if_pos ((atFirst_iff t).mpr h)]

/-- The step at the other points of the first pass. -/
theorem step_pass1 (t : Fin grid0.N) (h : t.val ≠ 0) (h' : t.val < 8) (b : Blk F) (s : St F) :
    step (grid0.coords t) b s = pass1 (grid0.coords t) b s := by
  unfold step
  rw [dif_neg (fun h' => by have := (inPass2_iff t).mp h'; omega), if_neg (fun h' => h ((atFirst_iff t).mp h'))]

/-- The step at the first point of the second pass. -/
theorem step_turn (t : Fin grid0.N) (h : t.val = 8) (b : Blk F) (s : St F) :
    step (grid0.coords t) b s = pass2 (grid0.coords t) ((inPass2_iff t).mpr (by omega)) b (centred s) := by
  unfold step
  rw [dif_pos ((inPass2_iff t).mpr (by omega)), if_pos ((atTurn_iff t).mpr h)]

/-- The step at the other points of the second pass. -/
theorem step_pass2 (t : Fin grid0.N) (h : 8 < t.val) (b : Blk F) (s : St F) :
    step (grid0.coords t) b s = pass2 (grid0.coords t) ((inPass2_iff t).mpr (by omega)) b s := by
  unfold step
  rw [dif_pos ((inPass2_iff t).mpr (by omega)), if_neg (fun h' => by have := (atTurn_iff t).mp h'; omega)]

/-- What two runs started differently agree on before point `n`: nothing at the start; the four accumulators and the labels
    stored so far after that; from the second pass on the centroids too. -/
structure Agree (n : ℕ) (s s' : St F) : Prop where
  num : 0 < n → s.num = s'.num
  aux : 0 < n → s.aux = s'.aux
  sd : 0 < n → s.sd = s'.sd
  td : 0 < n → s.td = s'.td
  slab : ∀ y : S256x256.Idx, (y 0).val < 32 * n → s.slab y = s'.slab y
  tlab : ∀ y : S256x256.Idx, (y 0).val < 32 * n → s.tlab y = s'.tlab y
  cen : 8 < n → s.cen = s'.cen
  c2 : 8 < n → s.c2 = s'.c2

/-- Rows below the end of the rows just stored agree when those before them did. -/
theorem putRows_agree (t : Fin grid0.N) (ht : t.val < 8) (p : IVec S32x256 32) (x x' : Vec F S256x256 .i32)
    (h : ∀ y : S256x256.Idx, (y 0).val < 32 * t.val → x y = x' y) (y : S256x256.Idx) (hy : (y 0).val < 32 * (t.val + 1)) :
    putRows (F := F) (k0_off1 (grid0.coords t) 0) p x y = putRows (F := F) (k0_off1 (grid0.coords t) 0) p x' y := by
  rw [off1_eq t ht]
  show putRows (F := F) (32 * t.val) p x y = putRows (F := F) (32 * t.val) p x' y
  by_cases hm : 32 * t.val ≤ (y 0).val ∧ (y 0).val < 32 * t.val + 32
  · rw [putRows_of_mem _ _ _ _ hm, putRows_of_mem _ _ _ _ hm]
  · rw [putRows_of_not_mem _ _ _ _ hm, putRows_of_not_mem _ _ _ _ hm]
    exact h y (by omega)

/-- A first-pass point keeps the agreement, given that the accumulators agree. -/
theorem agree_pass1 (t : Fin grid0.N) (ht : t.val < 8) (b : Blk F) (s s' : St F) (h : Agree t.val s s')
    (h1 : s.num = s'.num) (h2 : s.aux = s'.aux) (h3 : s.sd = s'.sd) (h4 : s.td = s'.td) :
    Agree (t.val + 1) (pass1 (grid0.coords t) b s) (pass1 (grid0.coords t) b s') where
  num _ := by show numStep b s.num = numStep b s'.num; rw [h1]
  aux _ := by show auxStep b s.aux = auxStep b s'.aux; rw [h2]
  sd _ := h3
  td _ := h4
  slab := putRows_agree t ht _ _ _ h.slab
  tlab := putRows_agree t ht _ _ _ h.tlab
  cen h := absurd h (by omega)
  c2 h := absurd h (by omega)

/-- A second-pass point keeps the agreement. -/
theorem agree_pass2 (t : Fin grid0.N) (ht : 8 ≤ t.val) (b : Blk F) (s s' : St F) (h : Agree t.val s s')
    (hc : s.cen = s'.cen) (hc2 : s.c2 = s'.c2) (h2 : inPass2 (grid0.coords t)) :
    Agree (t.val + 1) (pass2 (grid0.coords t) h2 b s) (pass2 (grid0.coords t) h2 b s') := by
  have es : s.slab = s'.slab := funext fun y => h.slab y (by have : (y 0).val < 256 := (y 0).isLt; omega)
  have et : s.tlab = s'.tlab := funext fun y => h.tlab y (by have : (y 0).val < 256 := (y 0).isLt; omega)
  have e1 := h.num (by omega)
  have e2 := h.aux (by omega)
  have e3 := h.sd (by omega)
  have e4 := h.td (by omega)
  have e : s = s' := by
    cases s; cases s'
    simp only at es et e1 e2 e3 e4 hc hc2
    subst es et e1 e2 e3 e4 hc hc2
    rfl
  rw [e]
  exact ⟨fun _ => rfl, fun _ => rfl, fun _ => rfl, fun _ => rfl, fun _ _ => rfl, fun _ _ => rfl, fun _ => rfl, fun _ => rfl⟩

/-- Every point keeps the agreement. -/
theorem agree_step (t : Fin grid0.N) (b : Blk F) (s s' : St F) (h : Agree t.val s s') :
    Agree (t.val + 1) (step (grid0.coords t) b s) (step (grid0.coords t) b s') := by
  by_cases h0 : t.val = 0
  · rw [step_first t h0, step_first t h0]
    exact agree_pass1 t (by omega) b _ _
      ⟨fun h => absurd h (by omega), fun h => absurd h (by omega), fun h => absurd h (by omega), fun h => absurd h (by omega),
        h.slab, h.tlab, fun h => absurd h (by omega), fun h => absurd h (by omega)⟩ rfl rfl rfl rfl
  · by_cases h1 : t.val < 8
    · rw [step_pass1 t h0 h1, step_pass1 t h0 h1]
      exact agree_pass1 t h1 b s s' h (h.num (by omega)) (h.aux (by omega)) (h.sd (by omega)) (h.td (by omega))
    · by_cases h8 : t.val = 8
      · rw [step_turn t h8, step_turn t h8]
        have e1 := h.num (by omega)
        have e2 := h.aux (by omega)
        refine agree_pass2 t (by omega) b (centred s) (centred s') ⟨fun _ => e1, fun _ => e2, h.sd, h.td, h.slab, h.tlab, fun h => absurd h (by omega), fun h => absurd h (by omega)⟩ ?_ ?_ _
        · show k0_pay7 (col 0 s.aux) (col 1 s.aux) s.num = k0_pay7 (col 0 s'.aux) (col 1 s'.aux) s'.num
          rw [e1, e2]
        · show k0_pay8 (col 0 s.aux) (col 1 s.aux) s.num = k0_pay8 (col 0 s'.aux) (col 1 s'.aux) s'.num
          rw [e1, e2]
      · rw [step_pass2 t (by omega), step_pass2 t (by omega)]
        exact agree_pass2 t (by omega) b s s' h (h.cen (by omega)) (h.c2 (by omega)) _

/-- So two runs agree before every point. -/
theorem agree_stAt (B : Fin grid0.N → Blk F) (s0 s0' : St F) (n : ℕ) (hn : n ≤ grid0.N) : Agree n (stAt B s0 n) (stAt B s0' n) := by
  induction n with
  | zero => exact ⟨fun h => absurd h (by omega), fun h => absurd h (by omega), fun h => absurd h (by omega), fun h => absurd h (by omega),
      fun y h => absurd h (by omega), fun y h => absurd h (by omega), fun h => absurd h (by omega), fun h => absurd h (by omega)⟩
  | succ n ih =>
    rw [stAt_succ B s0 ⟨n, hn⟩, stAt_succ B s0' ⟨n, hn⟩]
    exact agree_step ⟨n, hn⟩ _ _ _ (ih (by omega))

variable (F) in
/-- Some contents of the scratch. -/
def someSt : St F := ⟨fun _ => FloatOps.ofBits .f32 0#32, fun _ => FloatOps.ofBits .f32 0#32, fun _ => 0#32, fun _ => 0#32, fun _ => FloatOps.ofBits .bf16 0#16,
  fun _ => FloatOps.ofBits .f32 0#32, fun _ => FloatOps.ofBits .f32 0#32, fun _ => FloatOps.ofBits .f32 0#32⟩

/-- The loss after any point but the first does not depend on the scratch's first contents. -/
theorem lossOf_stAt (B : Fin grid0.N → Blk F) (s0 s0' : St F) (n : ℕ) (hn : n ≤ grid0.N) (h0 : 0 < n) :
    lossOf (stAt B s0 n) = lossOf (stAt B s0' n) := by
  have h := agree_stAt B s0 s0' n hn
  unfold lossOf
  rw [h.aux h0, h.sd h0, h.td h0]

end Cert.KernelIdeal.Pass
-- ==== Proof.KFrame.lean ====
/- The launch: the kernel's grid points run one after another over the scratch, the result block left at the loss, and the
   frame that follows. -/
module

public import proofs.«01_k».proof.Proof.KRun
public import proofs.«01_k».proof.Proof.KState
public import Idealize.ShloMosaic.Lib.Claim

@[expose] public section

set_option maxRecDepth 16384

noncomputable section

namespace Cert.KernelIdeal.Pass

open Idealize.ShloMosaic Idealize.ShloMosaic.ValueIdx Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- What the output block holds after point `t`: the loss after the last point, what it held before after any other. -/
def outAfter (t : Fin grid0.N) (s : St F) (y : Vec F S1x1 .f32) : Vec F S1x1 .f32 := if t.val = 15 then lossOf s else y

/-- The body at any grid point: the scratch steps, the output block is written at the last point only. -/
theorem run_point (c : Dev nD) (t : Fin grid0.N) (arg2 : Memref sig .tc .vmem S256x32x256 .f32) (harg2 : arg2.IsWhole) (arg3 : Memref sig .tc .vmem S256x32x256 .f32) (harg3 : arg3.IsWhole) (arg4 : Memref sig .tc .vmem S19x32x256 .f32) (harg4 : arg4.IsWhole) (arg5 : Memref sig .tc .vmem S19x32x256 .f32) (harg5 : arg5.IsWhole) (arg6 : Memref sig .tc .vmem S1x32x256 .i32) (harg6 : arg6.IsWhole) (arg7 : Memref sig .tc .vmem S1x32x256 .i32) (harg7 : arg7.IsWhole) (arg8 : Memref sig .tc .vmem S1x1 .f32) (harg8 : arg8.IsWhole) (arg9 : Memref sig .tc .vmem S256x19 .f32) (harg9 : arg9.IsWhole) (arg10 : Memref sig .tc .vmem S19x4 .f32) (harg10 : arg10.IsWhole) (arg11 : Memref sig .tc .vmem S256x256 .i32) (harg11 : arg11.IsWhole) (arg12 : Memref sig .tc .vmem S256x256 .i32) (harg12 : arg12.IsWhole) (arg13 : Memref sig .tc .vmem S19x256 .bf16) (harg13 : arg13.IsWhole) (arg14 : Memref sig .tc .vmem S19x1 .f32) (harg14 : arg14.IsWhole) (arg15 : Memref sig .tc .vmem S19x19 .f32) (harg15 : arg15.IsWhole) (arg16 : Memref sig .tc .vmem S19x19 .f32) (harg16 : arg16.IsWhole)
    (b : Blk F) (y : Vec F S1x1 .f32) (s : St F) (E : Set ℕ) (K : PUnit → sProp 𝕄) :
    iprop(holds c arg2 arg3 arg4 arg5 arg6 arg7 arg8 arg9 arg10 arg11 arg12 arg13 arg14 arg15 arg16 b y s ∗ (holds c arg2 arg3 arg4 arg5 arg6 arg7 arg8 arg9 arg10 arg11 arg12 arg13 arg14 arg15 arg16 b (outAfter t (step (grid0.coords t) b s) y) (step (grid0.coords t) b s) -∗ K ⟨⟩))
      ⊢ wp frame (wpE (defs₀ (F := F)) Variants.none c none) E (cc0__fused_kernel (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have n0 : t.val ≠ 0 → ¬atFirst (grid0.coords t) := fun h h' => h ((atFirst_iff t).mp h')
  have n1 : 8 ≤ t.val → ¬inPass1 (grid0.coords t) := fun h h' => by have := (inPass1_iff t).mp h'; omega
  have n2 : t.val ≠ 8 → ¬atTurn (grid0.coords t) := fun h h' => h ((atTurn_iff t).mp h')
  have n3 : t.val < 8 → ¬inPass2 (grid0.coords t) := fun h h' => by have := (inPass2_iff t).mp h'; omega
  have n4 : t.val ≠ 15 → ¬atLast (grid0.coords t) := fun h h' => h ((atLast_iff t).mp h')
  unfold outAfter
  by_cases h0 : t.val = 0
  · rw [step_first t h0, if_neg (by omega)]
    exact run_A c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 ((atFirst_iff t).mpr h0) ((inPass1_iff t).mpr (by omega)) (n2 (by omega)) (n3 (by omega)) (n4 (by omega)) b y s E K
  · by_cases h1 : t.val < 8
    · rw [step_pass1 t h0 h1, if_neg (by omega)]
      exact run_B c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (n0 h0) ((inPass1_iff t).mpr h1) (n2 (by omega)) (n3 (by omega)) (n4 (by omega)) b y s E K
    · by_cases h8 : t.val = 8
      · rw [step_turn t h8, if_neg (by omega)]
        exact run_C c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (n0 h0) (n1 (by omega)) ((atTurn_iff t).mpr h8) ((inPass2_iff t).mpr (by omega)) (n4 (by omega)) b y s E K
      · rw [step_pass2 t (by omega)]
        by_cases h15 : t.val = 15
        · rw [if_pos h15]
          exact run_E c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (n0 h0) (n1 (by omega)) (n2 h8) ((inPass2_iff t).mpr (by omega)) ((atLast_iff t).mpr h15) b y s E K
        · rw [if_neg h15]
          exact run_D c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (n0 h0) (n1 (by omega)) (n2 h8) ((inPass2_iff t).mpr (by omega)) (n4 h15) b y s E K

variable (m : (ℓ : Loc nD τ sig) → Buf (Elt F) ℓ) (ρ : Dev nD → PrngReg)

/-- The six input blocks of point `t`, read off the arrays as the region finds them. -/
def blkAt (c : Dev nD) (t : Fin grid0.N) : Blk F := ⟨iblk m c 0 t, iblk m c 1 t, iblk m c 2 t, iblk m c 3 t, iblk m c 4 t, iblk m c 5 t⟩

/-- The loss the kernel ends with. -/
def lossAt (c : Dev nD) : Vec F S1x1 .f32 := lossOf (stAt (blkAt m c) (someSt F) 16)

/-- The scratch held at contents `s`. -/
def scratchAt (c : Dev nD) (s : St F) : sProp 𝕄 :=
  iprop(owns (c : Thread nD τ) (Memref.whole cc0_scratch0) fullShare s.num ∗ owns (c : Thread nD τ) (Memref.whole cc0_scratch1) fullShare s.aux ∗ owns (c : Thread nD τ) (Memref.whole cc0_scratch2) fullShare s.slab ∗ owns (c : Thread nD τ) (Memref.whole cc0_scratch3) fullShare s.tlab ∗ owns (c : Thread nD τ) (Memref.whole cc0_scratch4) fullShare s.cen ∗ owns (c : Thread nD τ) (Memref.whole cc0_scratch5) fullShare s.c2 ∗ owns (c : Thread nD τ) (Memref.whole cc0_scratch6) fullShare s.sd ∗ owns (c : Thread nD τ) (Memref.whole cc0_scratch7) fullShare s.td)

/-- Between points: the scratch at what the points so far make of some first contents, and the generator register at some state. -/
def inv (c : Dev nD) (n : ℕ) : sProp 𝕄 := iprop((∃ s0, scratchAt c (stAt (blkAt m c) s0 n)) ∗ (∃ r, prngReg c r))

/-- What the launch provides beside the windows: every scratch buffer at some contents. -/
theorem launch_scratch (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

/-- The proof data: the arrays as the region finds them; each input's buffer at its block after every point, the output's at the
    loss; the invariant `inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => lossAt m c
  Φ t := inv m c t.val
  q _ := fullShare
  owed _ := 0

/-- The arrays of the proof data. -/
theorem dats_A (c : Dev nD) (w : Fin cfg0.W) : (dats m 0 c).A w = V m c (Pipeline.arrRef spec0 w) := by
  dsimp only [dats]

/-- Input 0 is left at its block … -/
theorem left0 (c : Dev nD) (t : Fin cfg0.N) : (dats m 0 c).after 0 t = iblk m c 0 t := by dsimp only [dats]
/-- … which is what its buffer holds when the point starts. -/
theorem found0 (c : Dev nD) (t : Fin cfg0.N) (d) : (dats m 0 c).before 0 t d = iblk m c 0 t :=
  before0_0_of m (dats m 0 c) (dats_A m c 0) (left0 m c) t d
/-- What the body has to return of input 0. -/
theorem returns0 (c : Dev nD) (t : Fin cfg0.N) :
    (dats m 0 c).leavesExact 0 t = owns (c : Thread nD τ) (win0_0.stage (cfg0.slots t 0)) fullShare (iblk m c 0 t) := by
  unfold Dat.leavesExact
  rw [show cfg0.idle 0 (grid0.coords t) = false from rfl, left0]

/-- Input 1 is left at its block … -/
theorem left1 (c : Dev nD) (t : Fin cfg0.N) : (dats m 0 c).after 1 t = iblk m c 1 t := by dsimp only [dats]
/-- … which is what its buffer holds when the point starts. -/
theorem found1 (c : Dev nD) (t : Fin cfg0.N) (d) : (dats m 0 c).before 1 t d = iblk m c 1 t :=
  before0_1_of m (dats m 0 c) (dats_A m c 1) (left1 m c) t d
/-- What the body has to return of input 1. -/
theorem returns1 (c : Dev nD) (t : Fin cfg0.N) :
    (dats m 0 c).leavesExact 1 t = owns (c : Thread nD τ) (win0_1.stage (cfg0.slots t 1)) fullShare (iblk m c 1 t) := by
  unfold Dat.leavesExact
  rw [show cfg0.idle 1 (grid0.coords t) = false from rfl, left1]

/-- Input 2 is left at its block … -/
theorem left2 (c : Dev nD) (t : Fin cfg0.N) : (dats m 0 c).after 2 t = iblk m c 2 t := by dsimp only [dats]
/-- … which is what its buffer holds when the point starts. -/
theorem found2 (c : Dev nD) (t : Fin cfg0.N) (d) : (dats m 0 c).before 2 t d = iblk m c 2 t :=
  before0_2_of m (dats m 0 c) (dats_A m c 2) (left2 m c) t d
/-- What the body has to return of input 2. -/
theorem returns2 (c : Dev nD) (t : Fin cfg0.N) :
    (dats m 0 c).leavesExact 2 t = owns (c : Thread nD τ) (win0_2.stage (cfg0.slots t 2)) fullShare (iblk m c 2 t) := by
  unfold Dat.leavesExact
  rw [show cfg0.idle 2 (grid0.coords t) = false from rfl, left2]

/-- Input 3 is left at its block … -/
theorem left3 (c : Dev nD) (t : Fin cfg0.N) : (dats m 0 c).after 3 t = iblk m c 3 t := by dsimp only [dats]
/-- … which is what its buffer holds when the point starts. -/
theorem found3 (c : Dev nD) (t : Fin cfg0.N) (d) : (dats m 0 c).before 3 t d = iblk m c 3 t :=
  before0_3_of m (dats m 0 c) (dats_A m c 3) (left3 m c) t d
/-- What the body has to return of input 3. -/
theorem returns3 (c : Dev nD) (t : Fin cfg0.N) :
    (dats m 0 c).leavesExact 3 t = owns (c : Thread nD τ) (win0_3.stage (cfg0.slots t 3)) fullShare (iblk m c 3 t) := by
  unfold Dat.leavesExact
  rw [show cfg0.idle 3 (grid0.coords t) = false from rfl, left3]

/-- Input 4 is left at its block … -/
theorem left4 (c : Dev nD) (t : Fin cfg0.N) : (dats m 0 c).after 4 t = iblk m c 4 t := by dsimp only [dats]
/-- … which is what its buffer holds when the point starts. -/
theorem found4 (c : Dev nD) (t : Fin cfg0.N) (d) : (dats m 0 c).before 4 t d = iblk m c 4 t :=
  before0_4_of m (dats m 0 c) (dats_A m c 4) (left4 m c) t d
/-- What the body has to return of input 4. -/
theorem returns4 (c : Dev nD) (t : Fin cfg0.N) :
    (dats m 0 c).leavesExact 4 t = owns (c : Thread nD τ) (win0_4.stage (cfg0.slots t 4)) fullShare (iblk m c 4 t) := by
  unfold Dat.leavesExact
  rw [show cfg0.idle 4 (grid0.coords t) = false from rfl, left4]

/-- Input 5 is left at its block … -/
theorem left5 (c : Dev nD) (t : Fin cfg0.N) : (dats m 0 c).after 5 t = iblk m c 5 t := by dsimp only [dats]
/-- … which is what its buffer holds when the point starts. -/
theorem found5 (c : Dev nD) (t : Fin cfg0.N) (d) : (dats m 0 c).before 5 t d = iblk m c 5 t :=
  before0_5_of m (dats m 0 c) (dats_A m c 5) (left5 m c) t d
/-- What the body has to return of input 5. -/
theorem returns5 (c : Dev nD) (t : Fin cfg0.N) :
    (dats m 0 c).leavesExact 5 t = owns (c : Thread nD τ) (win0_5.stage (cfg0.slots t 5)) fullShare (iblk m c 5 t) := by
  unfold Dat.leavesExact
  rw [show cfg0.idle 5 (grid0.coords t) = false from rfl, left5]

/-- The output's buffer is left at the loss. -/
theorem left6 (c : Dev nD) (t : Fin cfg0.N) : (dats m 0 c).after 6 t = lossAt m c := by dsimp only [dats]

/-- Before the last point the output's buffer is not written and not sent back … -/
theorem quiet6 (t : Fin cfg0.N) (h : t.val ≠ 15) : cfg0.idle 6 (grid0.coords t) = true ∧ (cfg0.win 6).flush t = false :=
  (by decide +kernel : ∀ t : Fin cfg0.N, t.val ≠ 15 → cfg0.idle 6 (grid0.coords t) = true ∧ (cfg0.win 6).flush t = false) t h

/-- … and at the last point it is. -/
theorem busy6 (t : Fin cfg0.N) (h : t.val = 15) : cfg0.idle 6 (grid0.coords t) = false :=
  (by decide +kernel : ∀ t : Fin cfg0.N, t.val = 15 → cfg0.idle 6 (grid0.coords t) = false) t h

/-- What the body leaves in the output's buffer is what the proof data asks for. -/
theorem returns6 (c : Dev nD) (t : Fin cfg0.N) (s0 : St F) (y : Vec F S1x1 .f32) (hy : ∃ d, y = (dats m 0 c).before 6 t d) :
    (owns (c : Thread nD τ) (win0_6.stage (cfg0.slots t 6)) fullShare (outAfter t (stAt (blkAt m c) s0 (t.val + 1)) y) : sProp 𝕄)
      ⊢ (dats m 0 c).leavesExact 6 t := by
  unfold outAfter
  by_cases h : t.val = 15
  · rw [if_pos h]
    unfold Dat.leavesExact
    rw [busy6 t h, left6]
    have e : lossOf (stAt (blkAt m c) s0 (t.val + 1)) = lossAt m c := by
      unfold lossAt
      rw [h]
      exact lossOf_stAt _ _ _ 16 (le_of_eq N_0.symm) (by omega)
    rw [e]
  · rw [if_neg h, Dat.leavesExact_idle (dats m 0 c) 6 t (quiet6 t h).1 (quiet6 t h).2]
    obtain ⟨d, rfl⟩ := hy
    iintro H
    iexists _; iexact H

/-- What the body is called with at point `t`, the windows one by one, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The body at any point does what the proof data says. -/
theorem sound (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4, found5]
  rw [show (dats m 0 c).owesAt () t.succ = (dats m 0 c).owesAt () t.castSucc from rfl,
    show (dats m 0 c).Φ t.succ = inv m c (t.val + 1) from rfl, show (dats m 0 c).Φ t.castSucc = inv m c t.val from rfl,
    returns0, returns1, returns2, returns3, returns4, returns5]
  unfold inv scratchAt
  iintro ⟨⟨⟨%s0, S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩⟩
  iapply (run_point c t _ _ _ _ _ _ _ _ _ _ _ _ _ _ _ _ _ _ _ _ _ _ _ _ _ _ _ _ _ _ (blkAt m c t) ((dats m 0 c).before 6 t d6) (stAt (blkAt m c) s0 t.val) Set.univ _)
  isplitl [H0 H1 H2 H3 H4 H5 H6 S0 S1 S2 S3 S4 S5 S6 S7]
  · unfold holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  rw [← stAt_succ (blkAt m c) s0 t]
  unfold holds
  iintro ⟨H0, H1, H2, H3, H4, H5, H6, S0, S1, S2, S3, S4, S5, S6, S7⟩
  isplitl [S0 S1 S2 S3 S4 S5 S6 S7 Hg]
  · isplitl [S0 S1 S2 S3 S4 S5 S6 S7]
    · iexists s0
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (returns6 m c t s0 _ ⟨d6, rfl⟩)
  iexact H6

/-- The table's body at the point's slots is the body just run. -/
theorem row (t : Fin cfg0.N) : defs₀ (F := F) .tc cfg0.body (cfg0.bodyArgs t (cfg0.slots t)) = bodyAt0 t := by
  unfold defs₀; rw [Defs.onTc_tc]

/-- The pipeline's obligation of the body. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

/-- The scratch the launch hands over is some first contents. -/
theorem enters (c : Dev nD) : Pipeline.ΦA spec0 c ⊢ (dats m 0 c).Φ 0 := by
  rw [show (dats m 0 c).Φ 0 = inv m c 0 from rfl, launch_scratch]
  unfold inv scratchAt stAt
  iintro ⟨⟨⟨%x0, S0⟩, ⟨%x1, S1⟩, ⟨%x2, S2⟩, ⟨%x3, S3⟩, ⟨%x4, S4⟩, ⟨%x5, S5⟩, ⟨%x6, S6⟩, ⟨%x7, S7⟩⟩, Hg⟩
  isplitl [S0 S1 S2 S3 S4 S5 S6 S7]
  · iexists (⟨x0, x1, x2, x3, x4, x5, x6, x7⟩ : St F)
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iexact Hg

/-- After the last point the scratch goes back at whatever it holds. -/
theorem leaves (c : Dev nD) : (dats m 0 c).Φ (Fin.last cfg0.N) ⊢ Pipeline.ΦA spec0 c := by
  rw [show (dats m 0 c).Φ (Fin.last cfg0.N) = inv m c cfg0.N from rfl, launch_scratch]
  unfold inv scratchAt
  iintro ⟨⟨%s0, S0, S1, S2, S3, S4, S5, S6, S7⟩, Hg⟩
  isplitl [S0 S1 S2 S3 S4 S5 S6 S7]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  iexact Hg

set_option backward.isDefEq.respectTransparency.types false in
set_option maxHeartbeats 800000 in
/-- The launch: from any memory with every counter at zero the program ends, the pipeline's arrays at what the proof data
    computes, the rest as the lines after the region leave it, and every counter at zero again. -/
theorem launch : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := enters m) (hout := leaves m)

/-- The frame: the program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_A m) ((θ_run defs _ _).mono (fun _ h => h.1) (launch m ρ)))
    ((θ_run defs _ _).mono (fun _ h => h.2) (launch m ρ))

end Cert.KernelIdeal.Pass
-- ==== Proof.KBits.lean ====
/- The frame of the kernel over words: its program is the ideal program's text read at another float instance, so what
   is proved of that text at any instance holds of it. -/
module

public import proofs.«01_k».proof.Defs
public import proofs.«01_k».proof.Proof.KFrame
public import proofs.«01_k».proof.Proof.Gen.Kernel

@[expose] public section

set_option maxRecDepth 16384

noncomputable section

namespace Cert.Proof

open Idealize.ShloMosaic Idealize.SL.Sem

variable {F : FTy → Type} [FloatOps F]

/-- The two programs' kernel bodies are one. -/
theorem body_same : Cert.Kernel.cc0__fused_kernel (F := F) = Cert.KernelIdeal.cc0__fused_kernel (F := F) := rfl

/-- So are their body tables. -/
theorem table_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, a => rfl
  | ⟨n + 1, h⟩, _ => exact absurd h (Nat.not_lt.2 (Nat.le_add_left _ _))

/-- And those tables with the pipelines. -/
theorem defs_same : Cert.Kernel.defs (F := F) = Cert.KernelIdeal.defs (F := F) := by
  unfold Cert.Kernel.defs Cert.KernelIdeal.defs
  exact congrArg (Pipeline.defs Cert.KernelIdeal.pcfgs) table_same

/-- The kernel over words ends with its arguments as they were and every counter at zero. -/
theorem quiet_bits : Cert.quiescent_Kernel := by
  intro m g _
  rw [defs_same]
  exact Cert.KernelIdeal.Pass.frame m g

end Cert.Proof
-- ==== Proof.RRun.lean ====
/- The reference as a straight line of host operations in six stages, and its run: it ends with every buffer at what
   those operations leave there, its arguments as they were, every counter at zero. -/
module

public import proofs.«01_k».proof.Defs
public import proofs.«01_k».proof.Proof.Gen.ReferenceIdeal
public import Idealize.ShloMosaic.Lib.StableHlo.Run
public import Idealize.ShloMosaic.Lib.StableHlo.RunHlo
public import Idealize.ShloMosaic.Lib.Quiescent
public import Idealize.ShloMosaic.Lib.Claim

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Two columns of words side by side. -/
def pairCols (a b : (⟨S19x1, .i32⟩ : BufTy).Contents (Elt F)) : (⟨S19x2, .i32⟩ : BufTy).Contents (Elt F) :=
  concatenate S19x2 1 [⟨S19x1, a⟩, ⟨S19x1, b⟩] concatenates_S19x1_S19x1_S19x2_d1

/-- Stage A: the pixels as rows, their labels and their weights. -/
def opsA : List (HloOp τ sig (Elt F)) :=
  [ unary main_arg0 main_v0 ((transpose S2x128x256x256 [0, 2, 3, 1] · transposes_S2x256x128x256_S2x128x256x256_0_2_3_1) : (⟨S2x256x128x256, .f32⟩ : BufTy).Contents (Elt F) → (⟨S2x128x256x256, .f32⟩ : BufTy).Contents (Elt F)),
    reshape main_v0 main_v1 (rfl : (.f32 : EltTy) = .f32) shapeCasts_S2x128x256x256_S65536x256,
    unary main_arg3 main_v2 ((transpose S2x128x256x256 [0, 2, 3, 1] · transposes_S2x256x128x256_S2x128x256x256_0_2_3_1) : (⟨S2x256x128x256, .f32⟩ : BufTy).Contents (Elt F) → (⟨S2x128x256x256, .f32⟩ : BufTy).Contents (Elt F)),
    reshape main_v2 main_v3 (rfl : (.f32 : EltTy) = .f32) shapeCasts_S2x128x256x256_S65536x256,
    nullary main_call0_v0 (iotaInDim S2x19x128x256 32 1),
    nullary main_call0_cst (constant S_ .f32 0xFF800000#32),
    nullary main_call0_c (constantI S_ 32 0#32),
    quaternary main_arg1 main_call0_v0 main_call0_cst main_call0_c main_call0_v1_0 (fun x y u v j => (Host.argReduce reducer_argmax_f32_i32 x y u v reducesTo_S2x19x128x256_S2x128x256_d1 h_S_ j).1),
    quaternary main_arg1 main_call0_v0 main_call0_cst main_call0_c main_v4 (fun x y u v j => (Host.argReduce reducer_argmax_f32_i32 x y u v reducesTo_S2x19x128x256_S2x128x256_d1 h_S_ j).2),
    reshape main_v4 main_v5 (rfl : (.i32 : EltTy) = .i32) shapeCasts_S2x128x256_S65536,
    nullary main_call1_v0 (iotaInDim S2x19x128x256 32 1),
    nullary main_call1_cst (constant S_ .f32 0xFF800000#32),
    nullary main_call1_c (constantI S_ 32 0#32),
    quaternary main_arg4 main_call1_v0 main_call1_cst main_call1_c main_call1_v1_0 (fun x y u v j => (Host.argReduce reducer_argmax_f32_i32 x y u v reducesTo_S2x19x128x256_S2x128x256_d1 h_S_ j).1),
    quaternary main_arg4 main_call1_v0 main_call1_cst main_call1_c main_v6 (fun x y u v j => (Host.argReduce reducer_argmax_f32_i32 x y u v reducesTo_S2x19x128x256_S2x128x256_d1 h_S_ j).2),
    reshape main_v6 main_v7 (rfl : (.i32 : EltTy) = .i32) shapeCasts_S2x128x256_S65536,
    reshape main_arg2 main_v8 (rfl : (.i1 : EltTy) = .i1) shapeCasts_S2x128x256_S65536,
    unary main_v8 main_v9 (uitofp .f32 : (⟨S65536, .i1⟩ : BufTy).Contents (Elt F) → (⟨S65536, .f32⟩ : BufTy).Contents (Elt F)),
    reshape main_arg5 main_v10 (rfl : (.i1 : EltTy) = .i1) shapeCasts_S2x128x256_S65536,
    unary main_v10 main_v11 (uitofp .f32 : (⟨S65536, .i1⟩ : BufTy).Contents (Elt F) → (⟨S65536, .f32⟩ : BufTy).Contents (Elt F)),
    nullary main_cst (constant S_ .f32 0x3F800000#32),
    unary main_cst main_v12 (broadcastInDim S65536 ![] bcast_S_S65536 : (⟨S_, .f32⟩ : BufTy).Contents (Elt F) → (⟨S65536, .f32⟩ : BufTy).Contents (Elt F)),
    binary main_v12 main_v11 main_v13 (subf : (⟨S65536, .f32⟩ : BufTy).Contents (Elt F) → (⟨S65536, .f32⟩ : BufTy).Contents (Elt F) → (⟨S65536, .f32⟩ : BufTy).Contents (Elt F)) ]

/-- Stage B: the centroids and which classes have one. -/
def opsB : List (HloOp τ sig (Elt F)) :=
  [ unary main_v9 main_v14 (broadcastInDim S65536x1 ![0] bcast_S65536_S65536x1_0 : (⟨S65536, .f32⟩ : BufTy).Contents (Elt F) → (⟨S65536x1, .f32⟩ : BufTy).Contents (Elt F)),
    unary main_v14 main_v15 (broadcastInDim S65536x256 ![0, 1] bcast_S65536x1_S65536x256_0_1 : (⟨S65536x1, .f32⟩ : BufTy).Contents (Elt F) → (⟨S65536x256, .f32⟩ : BufTy).Contents (Elt F)),
    binary main_v1 main_v15 main_v16 (mulf : (⟨S65536x256, .f32⟩ : BufTy).Contents (Elt F) → (⟨S65536x256, .f32⟩ : BufTy).Contents (Elt F) → (⟨S65536x256, .f32⟩ : BufTy).Contents (Elt F)),
    nullary main_cst_0 (constant S_ .f32 0x00000000#32),
    unary main_cst_0 main_v17 (broadcastInDim S19x256 ![] bcast_S_S19x256 : (⟨S_, .f32⟩ : BufTy).Contents (Elt F) → (⟨S19x256, .f32⟩ : BufTy).Contents (Elt F)),
    unary main_v5 main_v18 (broadcastInDim S65536x1 ![0] bcast_S65536_S65536x1_0 : (⟨S65536, .i32⟩ : BufTy).Contents (Elt F) → (⟨S65536x1, .i32⟩ : BufTy).Contents (Elt F)),
    ternary main_v17 main_v18 main_v16 main_v19 ((fun x i u => Host.scatterAdd scatter_S19x256_S65536x1_S65536x256_1_0_0_1 x i u) : (⟨S19x256, .f32⟩ : BufTy).Contents (Elt F) → (⟨S65536x1, .i32⟩ : BufTy).Contents (Elt F) → (⟨S65536x256, .f32⟩ : BufTy).Contents (Elt F) → (⟨S19x256, .f32⟩ : BufTy).Contents (Elt F)),
    unary main_v13 main_v20 (broadcastInDim S65536x1 ![0] bcast_S65536_S65536x1_0 : (⟨S65536, .f32⟩ : BufTy).Contents (Elt F) → (⟨S65536x1, .f32⟩ : BufTy).Contents (Elt F)),
    unary main_v20 main_v21 (broadcastInDim S65536x256 ![0, 1] bcast_S65536x1_S65536x256_0_1 : (⟨S65536x1, .f32⟩ : BufTy).Contents (Elt F) → (⟨S65536x256, .f32⟩ : BufTy).Contents (Elt F)),
    binary main_v3 main_v21 main_v22 (mulf : (⟨S65536x256, .f32⟩ : BufTy).Contents (Elt F) → (⟨S65536x256, .f32⟩ : BufTy).Contents (Elt F) → (⟨S65536x256, .f32⟩ : BufTy).Contents (Elt F)),
    nullary main_cst_1 (constant S_ .f32 0x00000000#32),
    unary main_cst_1 main_v23 (broadcastInDim S19x256 ![] bcast_S_S19x256 : (⟨S_, .f32⟩ : BufTy).Contents (Elt F) → (⟨S19x256, .f32⟩ : BufTy).Contents (Elt F)),
    unary main_v7 main_v24 (broadcastInDim S65536x1 ![0] bcast_S65536_S65536x1_0 : (⟨S65536, .i32⟩ : BufTy).Contents (Elt F) → (⟨S65536x1, .i32⟩ : BufTy).Contents (Elt F)),
    ternary main_v23 main_v24 main_v22 main_v25 ((fun x i u => Host.scatterAdd scatter_S19x256_S65536x1_S65536x256_1_0_0_1 x i u) : (⟨S19x256, .f32⟩ : BufTy).Contents (Elt F) → (⟨S65536x1, .i32⟩ : BufTy).Contents (Elt F) → (⟨S65536x256, .f32⟩ : BufTy).Contents (Elt F) → (⟨S19x256, .f32⟩ : BufTy).Contents (Elt F)),
    binary main_v19 main_v25 main_v26 (addf : (⟨S19x256, .f32⟩ : BufTy).Contents (Elt F) → (⟨S19x256, .f32⟩ : BufTy).Contents (Elt F) → (⟨S19x256, .f32⟩ : BufTy).Contents (Elt F)),
    nullary main_cst_2 (constant S_ .f32 0x00000000#32),
    unary main_cst_2 main_v27 (broadcastInDim S19 ![] bcast_S_S19 : (⟨S_, .f32⟩ : BufTy).Contents (Elt F) → (⟨S19, .f32⟩ : BufTy).Contents (Elt F)),
    unary main_v5 main_v28 (broadcastInDim S65536x1 ![0] bcast_S65536_S65536x1_0 : (⟨S65536, .i32⟩ : BufTy).Contents (Elt F) → (⟨S65536x1, .i32⟩ : BufTy).Contents (Elt F)),
    ternary main_v27 main_v28 main_v9 main_v29 ((fun x i u => Host.scatterAdd scatter_S19_S65536x1_S65536_n_0_0_1 x i u) : (⟨S19, .f32⟩ : BufTy).Contents (Elt F) → (⟨S65536x1, .i32⟩ : BufTy).Contents (Elt F) → (⟨S65536, .f32⟩ : BufTy).Contents (Elt F) → (⟨S19, .f32⟩ : BufTy).Contents (Elt F)),
    nullary main_cst_3 (constant S_ .f32 0x00000000#32),
    unary main_cst_3 main_v30 (broadcastInDim S19 ![] bcast_S_S19 : (⟨S_, .f32⟩ : BufTy).Contents (Elt F) → (⟨S19, .f32⟩ : BufTy).Contents (Elt F)),
    unary main_v7 main_v31 (broadcastInDim S65536x1 ![0] bcast_S65536_S65536x1_0 : (⟨S65536, .i32⟩ : BufTy).Contents (Elt F) → (⟨S65536x1, .i32⟩ : BufTy).Contents (Elt F)),
    ternary main_v30 main_v31 main_v13 main_v32 ((fun x i u => Host.scatterAdd scatter_S19_S65536x1_S65536_n_0_0_1 x i u) : (⟨S19, .f32⟩ : BufTy).Contents (Elt F) → (⟨S65536x1, .i32⟩ : BufTy).Contents (Elt F) → (⟨S65536, .f32⟩ : BufTy).Contents (Elt F) → (⟨S19, .f32⟩ : BufTy).Contents (Elt F)),
    binary main_v29 main_v32 main_v33 (addf : (⟨S19, .f32⟩ : BufTy).Contents (Elt F) → (⟨S19, .f32⟩ : BufTy).Contents (Elt F) → (⟨S19, .f32⟩ : BufTy).Contents (Elt F)),
    nullary main_cst_4 (constant S_ .f32 0x3F800000#32),
    unary main_cst_4 main_v34 (broadcastInDim S19 ![] bcast_S_S19 : (⟨S_, .f32⟩ : BufTy).Contents (Elt F) → (⟨S19, .f32⟩ : BufTy).Contents (Elt F)),
    binary main_v33 main_v34 main_v35 (maximumf : (⟨S19, .f32⟩ : BufTy).Contents (Elt F) → (⟨S19, .f32⟩ : BufTy).Contents (Elt F) → (⟨S19, .f32⟩ : BufTy).Contents (Elt F)),
    unary main_v35 main_v36 (broadcastInDim S19x1 ![0] bcast_S19_S19x1_0 : (⟨S19, .f32⟩ : BufTy).Contents (Elt F) → (⟨S19x1, .f32⟩ : BufTy).Contents (Elt F)),
    unary main_v36 main_v37 (broadcastInDim S19x256 ![0, 1] bcast_S19x1_S19x256_0_1 : (⟨S19x1, .f32⟩ : BufTy).Contents (Elt F) → (⟨S19x256, .f32⟩ : BufTy).Contents (Elt F)),
    binary main_v26 main_v37 main_v38 (Host.divf : (⟨S19x256, .f32⟩ : BufTy).Contents (Elt F) → (⟨S19x256, .f32⟩ : BufTy).Contents (Elt F) → (⟨S19x256, .f32⟩ : BufTy).Contents (Elt F)),
    nullary main_cst_5 (constant S_ .f32 0x00000000#32),
    unary main_cst_5 main_v39 (broadcastInDim S19 ![] bcast_S_S19 : (⟨S_, .f32⟩ : BufTy).Contents (Elt F) → (⟨S19, .f32⟩ : BufTy).Contents (Elt F)),
    binary main_v33 main_v39 main_v40 (cmpf .ogt : (⟨S19, .f32⟩ : BufTy).Contents (Elt F) → (⟨S19, .f32⟩ : BufTy).Contents (Elt F) → (⟨S19, .i1⟩ : BufTy).Contents (Elt F)),
    nullary main_v41 (iotaInDim S19x19 32 0),
    nullary main_v42 (iotaInDim S19x19 32 1),
    nullary main_c (constantI S_ 32 0#32),
    unary main_c main_v43 (broadcastInDim S19x19 ![] bcast_S_S19x19 : (⟨S_, .i32⟩ : BufTy).Contents (Elt F) → (⟨S19x19, .i32⟩ : BufTy).Contents (Elt F)),
    binary main_v41 main_v43 main_v44 (addi : (⟨S19x19, .i32⟩ : BufTy).Contents (Elt F) → (⟨S19x19, .i32⟩ : BufTy).Contents (Elt F) → (⟨S19x19, .i32⟩ : BufTy).Contents (Elt F)),
    binary main_v44 main_v42 main_v45 (cmpi .eq : (⟨S19x19, .i32⟩ : BufTy).Contents (Elt F) → (⟨S19x19, .i32⟩ : BufTy).Contents (Elt F) → (⟨S19x19, .i1⟩ : BufTy).Contents (Elt F)) ]

/-- Stage C: the source distances, summed and averaged by label. -/
def opsC : List (HloOp τ sig (Elt F)) :=
  [ binary main_v1 main_v1 main_v46 (mulf : (⟨S65536x256, .f32⟩ : BufTy).Contents (Elt F) → (⟨S65536x256, .f32⟩ : BufTy).Contents (Elt F) → (⟨S65536x256, .f32⟩ : BufTy).Contents (Elt F)),
    nullary main_cst_6 (constant S_ .f32 0x00000000#32),
    binary main_v46 main_cst_6 main_v47 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v47 main_v48 (broadcastInDim S65536x1 ![0] bcast_S65536_S65536x1_0 : (⟨S65536, .f32⟩ : BufTy).Contents (Elt F) → (⟨S65536x1, .f32⟩ : BufTy).Contents (Elt F)),
    binary main_v38 main_v38 main_v49 (mulf : (⟨S19x256, .f32⟩ : BufTy).Contents (Elt F) → (⟨S19x256, .f32⟩ : BufTy).Contents (Elt F) → (⟨S19x256, .f32⟩ : BufTy).Contents (Elt F)),
    nullary main_cst_7 (constant S_ .f32 0x00000000#32),
    binary main_v49 main_cst_7 main_v50 ((fun x v => Host.reduceAdd x v reducesTo_S19x256_S19_d1 h_S_) : (⟨S19x256, .f32⟩ : BufTy).Contents (Elt F) → (⟨S_, .f32⟩ : BufTy).Contents (Elt F) → (⟨S19, .f32⟩ : BufTy).Contents (Elt F)),
    unary main_v50 main_v51 (broadcastInDim S1x19 ![1] bcast_S19_S1x19_1 : (⟨S19, .f32⟩ : BufTy).Contents (Elt F) → (⟨S1x19, .f32⟩ : BufTy).Contents (Elt F)),
    unary main_v48 main_v52 (broadcastInDim S65536x19 ![0, 1] bcast_S65536x1_S65536x19_0_1 : (⟨S65536x1, .f32⟩ : BufTy).Contents (Elt F) → (⟨S65536x19, .f32⟩ : BufTy).Contents (Elt F)),
    unary main_v51 main_v53 (broadcastInDim S65536x19 ![0, 1] bcast_S1x19_S65536x19_0_1 : (⟨S1x19, .f32⟩ : BufTy).Contents (Elt F) → (⟨S65536x19, .f32⟩ : BufTy).Contents (Elt F)),
    binary main_v52 main_v53 main_v54 (addf : (⟨S65536x19, .f32⟩ : BufTy).Contents (Elt F) → (⟨S65536x19, .f32⟩ : BufTy).Contents (Elt F) → (⟨S65536x19, .f32⟩ : BufTy).Contents (Elt F)),
    unary main_v38 main_v55 ((transpose S256x19 [1, 0] · transposes_S19x256_S256x19_1_0) : (⟨S19x256, .f32⟩ : BufTy).Contents (Elt F) → (⟨S256x19, .f32⟩ : BufTy).Contents (Elt F)),
    binary main_v1 main_v55 main_v56 ((fun l r => Host.dotGeneral dot_S65536x256_S256x19_S65536x19_1_0_0_1_n_n none l r) : (⟨S65536x256, .f32⟩ : BufTy).Contents (Elt F) → (⟨S256x19, .f32⟩ : BufTy).Contents (Elt F) → (⟨S65536x19, .f32⟩ : BufTy).Contents (Elt F)),
    nullary main_cst_8 (constant S_ .f32 0x40000000#32),
    unary main_cst_8 main_v57 (broadcastInDim S65536x19 ![] bcast_S_S65536x19 : (⟨S_, .f32⟩ : BufTy).Contents (Elt F) → (⟨S65536x19, .f32⟩ : BufTy).Contents (Elt F)),
    binary main_v57 main_v56 main_v58 (mulf : (⟨S65536x19, .f32⟩ : BufTy).Contents (Elt F) → (⟨S65536x19, .f32⟩ : BufTy).Contents (Elt F) → (⟨S65536x19, .f32⟩ : BufTy).Contents (Elt F)),
    binary main_v54 main_v58 main_v59 (subf : (⟨S65536x19, .f32⟩ : BufTy).Contents (Elt F) → (⟨S65536x19, .f32⟩ : BufTy).Contents (Elt F) → (⟨S65536x19, .f32⟩ : BufTy).Contents (Elt F)),
    nullary main_cst_9 (constant S_ .f32 0x00000000#32),
    unary main_cst_9 main_v60 (broadcastInDim S65536x19 ![] bcast_S_S65536x19 : (⟨S_, .f32⟩ : BufTy).Contents (Elt F) → (⟨S65536x19, .f32⟩ : BufTy).Contents (Elt F)),
    binary main_v59 main_v60 main_v61 (maximumf : (⟨S65536x19, .f32⟩ : BufTy).Contents (Elt F) → (⟨S65536x19, .f32⟩ : BufTy).Contents (Elt F) → (⟨S65536x19, .f32⟩ : BufTy).Contents (Elt F)),
    nullary main_cst_10 (constant S_ .f32 0x2B8CBCCC#32),
    unary main_cst_10 main_v62 (broadcastInDim S65536x19 ![] bcast_S_S65536x19 : (⟨S_, .f32⟩ : BufTy).Contents (Elt F) → (⟨S65536x19, .f32⟩ : BufTy).Contents (Elt F)),
    binary main_v61 main_v62 main_v63 (addf : (⟨S65536x19, .f32⟩ : BufTy).Contents (Elt F) → (⟨S65536x19, .f32⟩ : BufTy).Contents (Elt F) → (⟨S65536x19, .f32⟩ : BufTy).Contents (Elt F)),
    unary main_v63 main_v64 (Host.sqrt : (⟨S65536x19, .f32⟩ : BufTy).Contents (Elt F) → (⟨S65536x19, .f32⟩ : BufTy).Contents (Elt F)),
    nullary main_cst_11 (constant S_ .f32 0x43800000#32),
    unary main_cst_11 main_v65 (broadcastInDim S65536x19 ![] bcast_S_S65536x19 : (⟨S_, .f32⟩ : BufTy).Contents (Elt F) → (⟨S65536x19, .f32⟩ : BufTy).Contents (Elt F)),
    binary main_v64 main_v65 main_v66 (Host.divf : (⟨S65536x19, .f32⟩ : BufTy).Contents (Elt F) → (⟨S65536x19, .f32⟩ : BufTy).Contents (Elt F) → (⟨S65536x19, .f32⟩ : BufTy).Contents (Elt F)),
    nullary main_cst_12 (constant S_ .f32 0x3F800000#32),
    unary main_cst_12 main_v67 (broadcastInDim S65536 ![] bcast_S_S65536 : (⟨S_, .f32⟩ : BufTy).Contents (Elt F) → (⟨S65536, .f32⟩ : BufTy).Contents (Elt F)),
    nullary main_cst_13 (constant S_ .f32 0x00000000#32),
    unary main_cst_13 main_v68 (broadcastInDim S19 ![] bcast_S_S19 : (⟨S_, .f32⟩ : BufTy).Contents (Elt F) → (⟨S19, .f32⟩ : BufTy).Contents (Elt F)),
    unary main_v5 main_v69 (broadcastInDim S65536x1 ![0] bcast_S65536_S65536x1_0 : (⟨S65536, .i32⟩ : BufTy).Contents (Elt F) → (⟨S65536x1, .i32⟩ : BufTy).Contents (Elt F)),
    ternary main_v68 main_v69 main_v67 main_v70 ((fun x i u => Host.scatterAdd scatter_S19_S65536x1_S65536_n_0_0_1 x i u) : (⟨S19, .f32⟩ : BufTy).Contents (Elt F) → (⟨S65536x1, .i32⟩ : BufTy).Contents (Elt F) → (⟨S65536, .f32⟩ : BufTy).Contents (Elt F) → (⟨S19, .f32⟩ : BufTy).Contents (Elt F)),
    nullary main_cst_14 (constant S_ .f32 0x00000000#32),
    unary main_cst_14 main_v71 (broadcastInDim S19x19 ![] bcast_S_S19x19 : (⟨S_, .f32⟩ : BufTy).Contents (Elt F) → (⟨S19x19, .f32⟩ : BufTy).Contents (Elt F)),
    unary main_v5 main_v72 (broadcastInDim S65536x1 ![0] bcast_S65536_S65536x1_0 : (⟨S65536, .i32⟩ : BufTy).Contents (Elt F) → (⟨S65536x1, .i32⟩ : BufTy).Contents (Elt F)),
    ternary main_v71 main_v72 main_v66 main_v73 ((fun x i u => Host.scatterAdd scatter_S19x19_S65536x1_S65536x19_1_0_0_1 x i u) : (⟨S19x19, .f32⟩ : BufTy).Contents (Elt F) → (⟨S65536x1, .i32⟩ : BufTy).Contents (Elt F) → (⟨S65536x19, .f32⟩ : BufTy).Contents (Elt F) → (⟨S19x19, .f32⟩ : BufTy).Contents (Elt F)),
    nullary main_cst_15 (constant S_ .f32 0x3F800000#32),
    unary main_cst_15 main_v74 (broadcastInDim S19 ![] bcast_S_S19 : (⟨S_, .f32⟩ : BufTy).Contents (Elt F) → (⟨S19, .f32⟩ : BufTy).Contents (Elt F)),
    binary main_v70 main_v74 main_v75 (maximumf : (⟨S19, .f32⟩ : BufTy).Contents (Elt F) → (⟨S19, .f32⟩ : BufTy).Contents (Elt F) → (⟨S19, .f32⟩ : BufTy).Contents (Elt F)),
    unary main_v75 main_v76 (broadcastInDim S19x1 ![0] bcast_S19_S19x1_0 : (⟨S19, .f32⟩ : BufTy).Contents (Elt F) → (⟨S19x1, .f32⟩ : BufTy).Contents (Elt F)),
    unary main_v76 main_v77 (broadcastInDim S19x19 ![0, 1] bcast_S19x1_S19x19_0_1 : (⟨S19x1, .f32⟩ : BufTy).Contents (Elt F) → (⟨S19x19, .f32⟩ : BufTy).Contents (Elt F)),
    binary main_v73 main_v77 main_v78 (Host.divf : (⟨S19x19, .f32⟩ : BufTy).Contents (Elt F) → (⟨S19x19, .f32⟩ : BufTy).Contents (Elt F) → (⟨S19x19, .f32⟩ : BufTy).Contents (Elt F)) ]

/-- Stage D: the source's pull and push terms. -/
def opsD : List (HloOp τ sig (Elt F)) :=
  [ nullary main_cst_16 (constant S_ .f32 0x00000000#32),
    unary main_cst_16 main_v79 (broadcastInDim S19 ![] bcast_S_S19 : (⟨S_, .f32⟩ : BufTy).Contents (Elt F) → (⟨S19, .f32⟩ : BufTy).Contents (Elt F)),
    binary main_v70 main_v79 main_v80 (cmpf .ogt : (⟨S19, .f32⟩ : BufTy).Contents (Elt F) → (⟨S19, .f32⟩ : BufTy).Contents (Elt F) → (⟨S19, .i1⟩ : BufTy).Contents (Elt F)),
    binary main_v80 main_v40 main_v81 (andi : (⟨S19, .i1⟩ : BufTy).Contents (Elt F) → (⟨S19, .i1⟩ : BufTy).Contents (Elt F) → (⟨S19, .i1⟩ : BufTy).Contents (Elt F)),
    nullary main_v82 (iotaInDim S19 32 0),
    nullary main_v83 (iotaInDim S19 32 0),
    nullary main_c_17 (constantI S_ 32 0#32),
    unary main_c_17 main_v84 (broadcastInDim S19 ![] bcast_S_S19 : (⟨S_, .i32⟩ : BufTy).Contents (Elt F) → (⟨S19, .i32⟩ : BufTy).Contents (Elt F)),
    binary main_v82 main_v84 main_v85 (cmpi .slt : (⟨S19, .i32⟩ : BufTy).Contents (Elt F) → (⟨S19, .i32⟩ : BufTy).Contents (Elt F) → (⟨S19, .i1⟩ : BufTy).Contents (Elt F)),
    nullary main_c_18 (constantI S_ 32 19#32),
    unary main_c_18 main_v86 (broadcastInDim S19 ![] bcast_S_S19 : (⟨S_, .i32⟩ : BufTy).Contents (Elt F) → (⟨S19, .i32⟩ : BufTy).Contents (Elt F)),
    binary main_v82 main_v86 main_v87 (addi : (⟨S19, .i32⟩ : BufTy).Contents (Elt F) → (⟨S19, .i32⟩ : BufTy).Contents (Elt F) → (⟨S19, .i32⟩ : BufTy).Contents (Elt F)),
    ternary main_v85 main_v87 main_v82 main_v88 (select : (⟨S19, .i1⟩ : BufTy).Contents (Elt F) → (⟨S19, .i32⟩ : BufTy).Contents (Elt F) → (⟨S19, .i32⟩ : BufTy).Contents (Elt F) → (⟨S19, .i32⟩ : BufTy).Contents (Elt F)),
    nullary main_c_19 (constantI S_ 32 0#32),
    unary main_c_19 main_v89 (broadcastInDim S19 ![] bcast_S_S19 : (⟨S_, .i32⟩ : BufTy).Contents (Elt F) → (⟨S19, .i32⟩ : BufTy).Contents (Elt F)),
    binary main_v83 main_v89 main_v90 (cmpi .slt : (⟨S19, .i32⟩ : BufTy).Contents (Elt F) → (⟨S19, .i32⟩ : BufTy).Contents (Elt F) → (⟨S19, .i1⟩ : BufTy).Contents (Elt F)),
    nullary main_c_20 (constantI S_ 32 19#32),
    unary main_c_20 main_v91 (broadcastInDim S19 ![] bcast_S_S19 : (⟨S_, .i32⟩ : BufTy).Contents (Elt F) → (⟨S19, .i32⟩ : BufTy).Contents (Elt F)),
    binary main_v83 main_v91 main_v92 (addi : (⟨S19, .i32⟩ : BufTy).Contents (Elt F) → (⟨S19, .i32⟩ : BufTy).Contents (Elt F) → (⟨S19, .i32⟩ : BufTy).Contents (Elt F)),
    ternary main_v90 main_v92 main_v83 main_v93 (select : (⟨S19, .i1⟩ : BufTy).Contents (Elt F) → (⟨S19, .i32⟩ : BufTy).Contents (Elt F) → (⟨S19, .i32⟩ : BufTy).Contents (Elt F) → (⟨S19, .i32⟩ : BufTy).Contents (Elt F)),
    unary main_v88 main_v94 (broadcastInDim S19x1 ![0] bcast_S19_S19x1_0 : (⟨S19, .i32⟩ : BufTy).Contents (Elt F) → (⟨S19x1, .i32⟩ : BufTy).Contents (Elt F)),
    unary main_v93 main_v95 (broadcastInDim S19x1 ![0] bcast_S19_S19x1_0 : (⟨S19, .i32⟩ : BufTy).Contents (Elt F) → (⟨S19x1, .i32⟩ : BufTy).Contents (Elt F)),
    binary main_v94 main_v95 main_v96 (pairCols : (⟨S19x1, .i32⟩ : BufTy).Contents (Elt F) → (⟨S19x1, .i32⟩ : BufTy).Contents (Elt F) → (⟨S19x2, .i32⟩ : BufTy).Contents (Elt F)),
    binary main_v78 main_v96 main_v97 ((fun x i => Host.gather gather_S19x19_S19x2_S19_n_01_n_n_01_1_11 x i) : (⟨S19x19, .f32⟩ : BufTy).Contents (Elt F) → (⟨S19x2, .i32⟩ : BufTy).Contents (Elt F) → (⟨S19, .f32⟩ : BufTy).Contents (Elt F)),
    nullary main_cst_21 (constant S_ .f32 0x00000000#32),
    unary main_cst_21 main_call2_v0 id,
    unary main_call2_v0 main_call2_v1 (broadcastInDim S19 ![] bcast_S_S19),
    ternary main_v81 main_v97 main_call2_v1 main_v98 select,
    nullary main_cst_22 (constant S_ .f32 0x00000000#32),
    binary main_v98 main_cst_22 main_v99 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    unary main_v81 main_v100 (uitofp .f32 : (⟨S19, .i1⟩ : BufTy).Contents (Elt F) → (⟨S19, .f32⟩ : BufTy).Contents (Elt F)),
    nullary main_cst_23 (constant S_ .f32 0x00000000#32),
    binary main_v100 main_cst_23 main_v101 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    nullary main_cst_24 (constant S_ .f32 0x3F800000#32),
    binary main_v101 main_cst_24 main_v102 (maximumf : (⟨S_, .f32⟩ : BufTy).Contents (Elt F) → (⟨S_, .f32⟩ : BufTy).Contents (Elt F) → (⟨S_, .f32⟩ : BufTy).Contents (Elt F)),
    binary main_v99 main_v102 main_v103 (Host.divf : (⟨S_, .f32⟩ : BufTy).Contents (Elt F) → (⟨S_, .f32⟩ : BufTy).Contents (Elt F) → (⟨S_, .f32⟩ : BufTy).Contents (Elt F)),
    unary main_v40 main_v104 (noti : (⟨S19, .i1⟩ : BufTy).Contents (Elt F) → (⟨S19, .i1⟩ : BufTy).Contents (Elt F)),
    unary main_v104 main_v105 (broadcastInDim S1x19 ![1] bcast_S19_S1x19_1 : (⟨S19, .i1⟩ : BufTy).Contents (Elt F) → (⟨S1x19, .i1⟩ : BufTy).Contents (Elt F)),
    unary main_v105 main_v106 (broadcastInDim S19x19 ![0, 1] bcast_S1x19_S19x19_0_1 : (⟨S1x19, .i1⟩ : BufTy).Contents (Elt F) → (⟨S19x19, .i1⟩ : BufTy).Contents (Elt F)),
    binary main_v45 main_v106 main_v107 (ori : (⟨S19x19, .i1⟩ : BufTy).Contents (Elt F) → (⟨S19x19, .i1⟩ : BufTy).Contents (Elt F) → (⟨S19x19, .i1⟩ : BufTy).Contents (Elt F)),
    nullary main_cst_25 (constant S_ .f32 0xFF800000#32),
    unary main_cst_25 main_call3_v0 id,
    unary main_call3_v0 main_call3_v1 (broadcastInDim S19x19 ![] bcast_S_S19x19),
    ternary main_v107 main_call3_v1 main_v78 main_v108 select,
    nullary main_cst_26 (constant S_ .f32 0xFF800000#32),
    binary main_v108 main_cst_26 main_v109 ((fun x v => Host.reduce FloatOps.maximumf x v reducesTo_S19x19_S19_d1 h_S_) : (⟨S19x19, .f32⟩ : BufTy).Contents (Elt F) → (⟨S_, .f32⟩ : BufTy).Contents (Elt F) → (⟨S19, .f32⟩ : BufTy).Contents (Elt F)),
    nullary main_cst_27 (constant S_ .f32 0x7F800000#32),
    unary main_cst_27 main_call4_v0 id,
    unary main_call4_v0 main_call4_v1 (broadcastInDim S19 ![] bcast_S_S19),
    ternary main_v81 main_v109 main_call4_v1 main_v110 select,
    nullary main_cst_28 (constant S_ .f32 0x7F800000#32),
    binary main_v110 main_cst_28 main_v111 ((fun x v => Host.reduce FloatOps.minimumf x v reducesTo_S19_S_d0 h_S_) : (⟨S19, .f32⟩ : BufTy).Contents (Elt F) → (⟨S_, .f32⟩ : BufTy).Contents (Elt F) → (⟨S_, .f32⟩ : BufTy).Contents (Elt F)) ]

/-- Stage E: the target distances, summed and averaged by label. -/
def opsE : List (HloOp τ sig (Elt F)) :=
  [ binary main_v3 main_v3 main_v112 (mulf : (⟨S65536x256, .f32⟩ : BufTy).Contents (Elt F) → (⟨S65536x256, .f32⟩ : BufTy).Contents (Elt F) → (⟨S65536x256, .f32⟩ : BufTy).Contents (Elt F)),
    nullary main_cst_29 (constant S_ .f32 0x00000000#32),
    binary main_v112 main_cst_29 main_v113 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v113 main_v114 (broadcastInDim S65536x1 ![0] bcast_S65536_S65536x1_0 : (⟨S65536, .f32⟩ : BufTy).Contents (Elt F) → (⟨S65536x1, .f32⟩ : BufTy).Contents (Elt F)),
    binary main_v38 main_v38 main_v115 (mulf : (⟨S19x256, .f32⟩ : BufTy).Contents (Elt F) → (⟨S19x256, .f32⟩ : BufTy).Contents (Elt F) → (⟨S19x256, .f32⟩ : BufTy).Contents (Elt F)),
    nullary main_cst_30 (constant S_ .f32 0x00000000#32),
    binary main_v115 main_cst_30 main_v116 ((fun x v => Host.reduceAdd x v reducesTo_S19x256_S19_d1 h_S_) : (⟨S19x256, .f32⟩ : BufTy).Contents (Elt F) → (⟨S_, .f32⟩ : BufTy).Contents (Elt F) → (⟨S19, .f32⟩ : BufTy).Contents (Elt F)),
    unary main_v116 main_v117 (broadcastInDim S1x19 ![1] bcast_S19_S1x19_1 : (⟨S19, .f32⟩ : BufTy).Contents (Elt F) → (⟨S1x19, .f32⟩ : BufTy).Contents (Elt F)),
    unary main_v114 main_v118 (broadcastInDim S65536x19 ![0, 1] bcast_S65536x1_S65536x19_0_1 : (⟨S65536x1, .f32⟩ : BufTy).Contents (Elt F) → (⟨S65536x19, .f32⟩ : BufTy).Contents (Elt F)),
    unary main_v117 main_v119 (broadcastInDim S65536x19 ![0, 1] bcast_S1x19_S65536x19_0_1 : (⟨S1x19, .f32⟩ : BufTy).Contents (Elt F) → (⟨S65536x19, .f32⟩ : BufTy).Contents (Elt F)),
    binary main_v118 main_v119 main_v120 (addf : (⟨S65536x19, .f32⟩ : BufTy).Contents (Elt F) → (⟨S65536x19, .f32⟩ : BufTy).Contents (Elt F) → (⟨S65536x19, .f32⟩ : BufTy).Contents (Elt F)),
    unary main_v38 main_v121 ((transpose S256x19 [1, 0] · transposes_S19x256_S256x19_1_0) : (⟨S19x256, .f32⟩ : BufTy).Contents (Elt F) → (⟨S256x19, .f32⟩ : BufTy).Contents (Elt F)),
    binary main_v3 main_v121 main_v122 ((fun l r => Host.dotGeneral dot_S65536x256_S256x19_S65536x19_1_0_0_1_n_n none l r) : (⟨S65536x256, .f32⟩ : BufTy).Contents (Elt F) → (⟨S256x19, .f32⟩ : BufTy).Contents (Elt F) → (⟨S65536x19, .f32⟩ : BufTy).Contents (Elt F)),
    nullary main_cst_31 (constant S_ .f32 0x40000000#32),
    unary main_cst_31 main_v123 (broadcastInDim S65536x19 ![] bcast_S_S65536x19 : (⟨S_, .f32⟩ : BufTy).Contents (Elt F) → (⟨S65536x19, .f32⟩ : BufTy).Contents (Elt F)),
    binary main_v123 main_v122 main_v124 (mulf : (⟨S65536x19, .f32⟩ : BufTy).Contents (Elt F) → (⟨S65536x19, .f32⟩ : BufTy).Contents (Elt F) → (⟨S65536x19, .f32⟩ : BufTy).Contents (Elt F)),
    binary main_v120 main_v124 main_v125 (subf : (⟨S65536x19, .f32⟩ : BufTy).Contents (Elt F) → (⟨S65536x19, .f32⟩ : BufTy).Contents (Elt F) → (⟨S65536x19, .f32⟩ : BufTy).Contents (Elt F)),
    nullary main_cst_32 (constant S_ .f32 0x00000000#32),
    unary main_cst_32 main_v126 (broadcastInDim S65536x19 ![] bcast_S_S65536x19 : (⟨S_, .f32⟩ : BufTy).Contents (Elt F) → (⟨S65536x19, .f32⟩ : BufTy).Contents (Elt F)),
    binary main_v125 main_v126 main_v127 (maximumf : (⟨S65536x19, .f32⟩ : BufTy).Contents (Elt F) → (⟨S65536x19, .f32⟩ : BufTy).Contents (Elt F) → (⟨S65536x19, .f32⟩ : BufTy).Contents (Elt F)),
    nullary main_cst_33 (constant S_ .f32 0x2B8CBCCC#32),
    unary main_cst_33 main_v128 (broadcastInDim S65536x19 ![] bcast_S_S65536x19 : (⟨S_, .f32⟩ : BufTy).Contents (Elt F) → (⟨S65536x19, .f32⟩ : BufTy).Contents (Elt F)),
    binary main_v127 main_v128 main_v129 (addf : (⟨S65536x19, .f32⟩ : BufTy).Contents (Elt F) → (⟨S65536x19, .f32⟩ : BufTy).Contents (Elt F) → (⟨S65536x19, .f32⟩ : BufTy).Contents (Elt F)),
    unary main_v129 main_v130 (Host.sqrt : (⟨S65536x19, .f32⟩ : BufTy).Contents (Elt F) → (⟨S65536x19, .f32⟩ : BufTy).Contents (Elt F)),
    nullary main_cst_34 (constant S_ .f32 0x43800000#32),
    unary main_cst_34 main_v131 (broadcastInDim S65536x19 ![] bcast_S_S65536x19 : (⟨S_, .f32⟩ : BufTy).Contents (Elt F) → (⟨S65536x19, .f32⟩ : BufTy).Contents (Elt F)),
    binary main_v130 main_v131 main_v132 (Host.divf : (⟨S65536x19, .f32⟩ : BufTy).Contents (Elt F) → (⟨S65536x19, .f32⟩ : BufTy).Contents (Elt F) → (⟨S65536x19, .f32⟩ : BufTy).Contents (Elt F)),
    nullary main_cst_35 (constant S_ .f32 0x3F800000#32),
    unary main_cst_35 main_v133 (broadcastInDim S65536 ![] bcast_S_S65536 : (⟨S_, .f32⟩ : BufTy).Contents (Elt F) → (⟨S65536, .f32⟩ : BufTy).Contents (Elt F)),
    nullary main_cst_36 (constant S_ .f32 0x00000000#32),
    unary main_cst_36 main_v134 (broadcastInDim S19 ![] bcast_S_S19 : (⟨S_, .f32⟩ : BufTy).Contents (Elt F) → (⟨S19, .f32⟩ : BufTy).Contents (Elt F)),
    unary main_v7 main_v135 (broadcastInDim S65536x1 ![0] bcast_S65536_S65536x1_0 : (⟨S65536, .i32⟩ : BufTy).Contents (Elt F) → (⟨S65536x1, .i32⟩ : BufTy).Contents (Elt F)),
    ternary main_v134 main_v135 main_v133 main_v136 ((fun x i u => Host.scatterAdd scatter_S19_S65536x1_S65536_n_0_0_1 x i u) : (⟨S19, .f32⟩ : BufTy).Contents (Elt F) → (⟨S65536x1, .i32⟩ : BufTy).Contents (Elt F) → (⟨S65536, .f32⟩ : BufTy).Contents (Elt F) → (⟨S19, .f32⟩ : BufTy).Contents (Elt F)),
    nullary main_cst_37 (constant S_ .f32 0x00000000#32),
    unary main_cst_37 main_v137 (broadcastInDim S19x19 ![] bcast_S_S19x19 : (⟨S_, .f32⟩ : BufTy).Contents (Elt F) → (⟨S19x19, .f32⟩ : BufTy).Contents (Elt F)),
    unary main_v7 main_v138 (broadcastInDim S65536x1 ![0] bcast_S65536_S65536x1_0 : (⟨S65536, .i32⟩ : BufTy).Contents (Elt F) → (⟨S65536x1, .i32⟩ : BufTy).Contents (Elt F)),
    ternary main_v137 main_v138 main_v132 main_v139 ((fun x i u => Host.scatterAdd scatter_S19x19_S65536x1_S65536x19_1_0_0_1 x i u) : (⟨S19x19, .f32⟩ : BufTy).Contents (Elt F) → (⟨S65536x1, .i32⟩ : BufTy).Contents (Elt F) → (⟨S65536x19, .f32⟩ : BufTy).Contents (Elt F) → (⟨S19x19, .f32⟩ : BufTy).Contents (Elt F)),
    nullary main_cst_38 (constant S_ .f32 0x3F800000#32),
    unary main_cst_38 main_v140 (broadcastInDim S19 ![] bcast_S_S19 : (⟨S_, .f32⟩ : BufTy).Contents (Elt F) → (⟨S19, .f32⟩ : BufTy).Contents (Elt F)),
    binary main_v136 main_v140 main_v141 (maximumf : (⟨S19, .f32⟩ : BufTy).Contents (Elt F) → (⟨S19, .f32⟩ : BufTy).Contents (Elt F) → (⟨S19, .f32⟩ : BufTy).Contents (Elt F)),
    unary main_v141 main_v142 (broadcastInDim S19x1 ![0] bcast_S19_S19x1_0 : (⟨S19, .f32⟩ : BufTy).Contents (Elt F) → (⟨S19x1, .f32⟩ : BufTy).Contents (Elt F)),
    unary main_v142 main_v143 (broadcastInDim S19x19 ![0, 1] bcast_S19x1_S19x19_0_1 : (⟨S19x1, .f32⟩ : BufTy).Contents (Elt F) → (⟨S19x19, .f32⟩ : BufTy).Contents (Elt F)),
    binary main_v139 main_v143 main_v144 (Host.divf : (⟨S19x19, .f32⟩ : BufTy).Contents (Elt F) → (⟨S19x19, .f32⟩ : BufTy).Contents (Elt F) → (⟨S19x19, .f32⟩ : BufTy).Contents (Elt F)) ]

/-- Stage F: the target's terms and the loss. -/
def opsF : List (HloOp τ sig (Elt F)) :=
  [ nullary main_cst_39 (constant S_ .f32 0x00000000#32),
    unary main_cst_39 main_v145 (broadcastInDim S19 ![] bcast_S_S19 : (⟨S_, .f32⟩ : BufTy).Contents (Elt F) → (⟨S19, .f32⟩ : BufTy).Contents (Elt F)),
    binary main_v136 main_v145 main_v146 (cmpf .ogt : (⟨S19, .f32⟩ : BufTy).Contents (Elt F) → (⟨S19, .f32⟩ : BufTy).Contents (Elt F) → (⟨S19, .i1⟩ : BufTy).Contents (Elt F)),
    binary main_v146 main_v40 main_v147 (andi : (⟨S19, .i1⟩ : BufTy).Contents (Elt F) → (⟨S19, .i1⟩ : BufTy).Contents (Elt F) → (⟨S19, .i1⟩ : BufTy).Contents (Elt F)),
    nullary main_v148 (iotaInDim S19 32 0),
    nullary main_v149 (iotaInDim S19 32 0),
    nullary main_c_40 (constantI S_ 32 0#32),
    unary main_c_40 main_v150 (broadcastInDim S19 ![] bcast_S_S19 : (⟨S_, .i32⟩ : BufTy).Contents (Elt F) → (⟨S19, .i32⟩ : BufTy).Contents (Elt F)),
    binary main_v148 main_v150 main_v151 (cmpi .slt : (⟨S19, .i32⟩ : BufTy).Contents (Elt F) → (⟨S19, .i32⟩ : BufTy).Contents (Elt F) → (⟨S19, .i1⟩ : BufTy).Contents (Elt F)),
    nullary main_c_41 (constantI S_ 32 19#32),
    unary main_c_41 main_v152 (broadcastInDim S19 ![] bcast_S_S19 : (⟨S_, .i32⟩ : BufTy).Contents (Elt F) → (⟨S19, .i32⟩ : BufTy).Contents (Elt F)),
    binary main_v148 main_v152 main_v153 (addi : (⟨S19, .i32⟩ : BufTy).Contents (Elt F) → (⟨S19, .i32⟩ : BufTy).Contents (Elt F) → (⟨S19, .i32⟩ : BufTy).Contents (Elt F)),
    ternary main_v151 main_v153 main_v148 main_v154 (select : (⟨S19, .i1⟩ : BufTy).Contents (Elt F) → (⟨S19, .i32⟩ : BufTy).Contents (Elt F) → (⟨S19, .i32⟩ : BufTy).Contents (Elt F) → (⟨S19, .i32⟩ : BufTy).Contents (Elt F)),
    nullary main_c_42 (constantI S_ 32 0#32),
    unary main_c_42 main_v155 (broadcastInDim S19 ![] bcast_S_S19 : (⟨S_, .i32⟩ : BufTy).Contents (Elt F) → (⟨S19, .i32⟩ : BufTy).Contents (Elt F)),
    binary main_v149 main_v155 main_v156 (cmpi .slt : (⟨S19, .i32⟩ : BufTy).Contents (Elt F) → (⟨S19, .i32⟩ : BufTy).Contents (Elt F) → (⟨S19, .i1⟩ : BufTy).Contents (Elt F)),
    nullary main_c_43 (constantI S_ 32 19#32),
    unary main_c_43 main_v157 (broadcastInDim S19 ![] bcast_S_S19 : (⟨S_, .i32⟩ : BufTy).Contents (Elt F) → (⟨S19, .i32⟩ : BufTy).Contents (Elt F)),
    binary main_v149 main_v157 main_v158 (addi : (⟨S19, .i32⟩ : BufTy).Contents (Elt F) → (⟨S19, .i32⟩ : BufTy).Contents (Elt F) → (⟨S19, .i32⟩ : BufTy).Contents (Elt F)),
    ternary main_v156 main_v158 main_v149 main_v159 (select : (⟨S19, .i1⟩ : BufTy).Contents (Elt F) → (⟨S19, .i32⟩ : BufTy).Contents (Elt F) → (⟨S19, .i32⟩ : BufTy).Contents (Elt F) → (⟨S19, .i32⟩ : BufTy).Contents (Elt F)),
    unary main_v154 main_v160 (broadcastInDim S19x1 ![0] bcast_S19_S19x1_0 : (⟨S19, .i32⟩ : BufTy).Contents (Elt F) → (⟨S19x1, .i32⟩ : BufTy).Contents (Elt F)),
    unary main_v159 main_v161 (broadcastInDim S19x1 ![0] bcast_S19_S19x1_0 : (⟨S19, .i32⟩ : BufTy).Contents (Elt F) → (⟨S19x1, .i32⟩ : BufTy).Contents (Elt F)),
    binary main_v160 main_v161 main_v162 (pairCols : (⟨S19x1, .i32⟩ : BufTy).Contents (Elt F) → (⟨S19x1, .i32⟩ : BufTy).Contents (Elt F) → (⟨S19x2, .i32⟩ : BufTy).Contents (Elt F)),
    binary main_v144 main_v162 main_v163 ((fun x i => Host.gather gather_S19x19_S19x2_S19_n_01_n_n_01_1_11 x i) : (⟨S19x19, .f32⟩ : BufTy).Contents (Elt F) → (⟨S19x2, .i32⟩ : BufTy).Contents (Elt F) → (⟨S19, .f32⟩ : BufTy).Contents (Elt F)),
    nullary main_cst_44 (constant S_ .f32 0x00000000#32),
    unary main_cst_44 main_call5_v0 id,
    unary main_call5_v0 main_call5_v1 (broadcastInDim S19 ![] bcast_S_S19),
    ternary main_v147 main_v163 main_call5_v1 main_v164 select,
    nullary main_cst_45 (constant S_ .f32 0x00000000#32),
    binary main_v164 main_cst_45 main_v165 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    unary main_v147 main_v166 (uitofp .f32 : (⟨S19, .i1⟩ : BufTy).Contents (Elt F) → (⟨S19, .f32⟩ : BufTy).Contents (Elt F)),
    nullary main_cst_46 (constant S_ .f32 0x00000000#32),
    binary main_v166 main_cst_46 main_v167 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    nullary main_cst_47 (constant S_ .f32 0x3F800000#32),
    binary main_v167 main_cst_47 main_v168 (maximumf : (⟨S_, .f32⟩ : BufTy).Contents (Elt F) → (⟨S_, .f32⟩ : BufTy).Contents (Elt F) → (⟨S_, .f32⟩ : BufTy).Contents (Elt F)),
    binary main_v165 main_v168 main_v169 (Host.divf : (⟨S_, .f32⟩ : BufTy).Contents (Elt F) → (⟨S_, .f32⟩ : BufTy).Contents (Elt F) → (⟨S_, .f32⟩ : BufTy).Contents (Elt F)),
    unary main_v40 main_v170 (noti : (⟨S19, .i1⟩ : BufTy).Contents (Elt F) → (⟨S19, .i1⟩ : BufTy).Contents (Elt F)),
    unary main_v170 main_v171 (broadcastInDim S1x19 ![1] bcast_S19_S1x19_1 : (⟨S19, .i1⟩ : BufTy).Contents (Elt F) → (⟨S1x19, .i1⟩ : BufTy).Contents (Elt F)),
    unary main_v171 main_v172 (broadcastInDim S19x19 ![0, 1] bcast_S1x19_S19x19_0_1 : (⟨S1x19, .i1⟩ : BufTy).Contents (Elt F) → (⟨S19x19, .i1⟩ : BufTy).Contents (Elt F)),
    binary main_v45 main_v172 main_v173 (ori : (⟨S19x19, .i1⟩ : BufTy).Contents (Elt F) → (⟨S19x19, .i1⟩ : BufTy).Contents (Elt F) → (⟨S19x19, .i1⟩ : BufTy).Contents (Elt F)),
    nullary main_cst_48 (constant S_ .f32 0xFF800000#32),
    unary main_cst_48 main_call6_v0 id,
    unary main_call6_v0 main_call6_v1 (broadcastInDim S19x19 ![] bcast_S_S19x19),
    ternary main_v173 main_call6_v1 main_v144 main_v174 select,
    nullary main_cst_49 (constant S_ .f32 0xFF800000#32),
    binary main_v174 main_cst_49 main_v175 ((fun x v => Host.reduce FloatOps.maximumf x v reducesTo_S19x19_S19_d1 h_S_) : (⟨S19x19, .f32⟩ : BufTy).Contents (Elt F) → (⟨S_, .f32⟩ : BufTy).Contents (Elt F) → (⟨S19, .f32⟩ : BufTy).Contents (Elt F)),
    nullary main_cst_50 (constant S_ .f32 0x7F800000#32),
    unary main_cst_50 main_call7_v0 id,
    unary main_call7_v0 main_call7_v1 (broadcastInDim S19 ![] bcast_S_S19),
    ternary main_v147 main_v175 main_call7_v1 main_v176 select,
    nullary main_cst_51 (constant S_ .f32 0x7F800000#32),
    binary main_v176 main_cst_51 main_v177 ((fun x v => Host.reduce FloatOps.minimumf x v reducesTo_S19_S_d0 h_S_) : (⟨S19, .f32⟩ : BufTy).Contents (Elt F) → (⟨S_, .f32⟩ : BufTy).Contents (Elt F) → (⟨S_, .f32⟩ : BufTy).Contents (Elt F)),
    binary main_v103 main_v169 main_v178 (addf : (⟨S_, .f32⟩ : BufTy).Contents (Elt F) → (⟨S_, .f32⟩ : BufTy).Contents (Elt F) → (⟨S_, .f32⟩ : BufTy).Contents (Elt F)),
    binary main_v111 main_v177 main_v179 (addf : (⟨S_, .f32⟩ : BufTy).Contents (Elt F) → (⟨S_, .f32⟩ : BufTy).Contents (Elt F) → (⟨S_, .f32⟩ : BufTy).Contents (Elt F)),
    nullary main_cst_52 (constant S_ .f32 0x3DCCCCCD#32),
    binary main_cst_52 main_v179 main_v180 (mulf : (⟨S_, .f32⟩ : BufTy).Contents (Elt F) → (⟨S_, .f32⟩ : BufTy).Contents (Elt F) → (⟨S_, .f32⟩ : BufTy).Contents (Elt F)),
    binary main_v178 main_v180 main_v181 (subf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := opsA ++ (opsB ++ (opsC ++ (opsD ++ (opsE ++ opsF))))

set_option maxHeartbeats 4000000 in
/-- The program is that line. -/
theorem main_eq (c : Dev nD) : main (F := F) c = seq ops := rfl

/-- What stage A writes. -/
def putA : List (Ref sig .tc) :=
  [main_v0, main_v1, main_v2, main_v3, main_call0_v0, main_call0_cst, main_call0_c, main_call0_v1_0, main_v4, main_v5, main_call1_v0, main_call1_cst, main_call1_c, main_call1_v1_0, main_v6, main_v7, main_v8, main_v9, main_v10, main_v11, main_cst, main_v12, main_v13]

/-- What stage B writes. -/
def putB : List (Ref sig .tc) :=
  [main_v14, main_v15, main_v16, main_cst_0, main_v17, main_v18, main_v19, main_v20, main_v21, main_v22, main_cst_1, main_v23, main_v24, main_v25, main_v26, main_cst_2, main_v27, main_v28, main_v29, main_cst_3, main_v30, main_v31, main_v32, main_v33, main_cst_4, main_v34, main_v35, main_v36, main_v37, main_v38, main_cst_5, main_v39, main_v40, main_v41, main_v42, main_c, main_v43, main_v44, main_v45]

/-- What stage C writes. -/
def putC : List (Ref sig .tc) :=
  [main_v46, main_cst_6, main_v47, main_v48, main_v49, main_cst_7, main_v50, main_v51, main_v52, main_v53, main_v54, main_v55, main_v56, main_cst_8, main_v57, main_v58, main_v59, main_cst_9, main_v60, main_v61, main_cst_10, main_v62, main_v63, main_v64, main_cst_11, main_v65, main_v66, main_cst_12, main_v67, main_cst_13, main_v68, main_v69, main_v70, main_cst_14, main_v71, main_v72, main_v73, main_cst_15, main_v74, main_v75, main_v76, main_v77, main_v78]

/-- What stage D writes. -/
def putD : List (Ref sig .tc) :=
  [main_cst_16, main_v79, main_v80, main_v81, main_v82, main_v83, main_c_17, main_v84, main_v85, main_c_18, main_v86, main_v87, main_v88, main_c_19, main_v89, main_v90, main_c_20, main_v91, main_v92, main_v93, main_v94, main_v95, main_v96, main_v97, main_cst_21, main_call2_v0, main_call2_v1, main_v98, main_cst_22, main_v99, main_v100, main_cst_23, main_v101, main_cst_24, main_v102, main_v103, main_v104, main_v105, main_v106, main_v107, main_cst_25, main_call3_v0, main_call3_v1, main_v108, main_cst_26, main_v109, main_cst_27, main_call4_v0, main_call4_v1, main_v110, main_cst_28, main_v111]

/-- What stage E writes. -/
def putE : List (Ref sig .tc) :=
  [main_v112, main_cst_29, main_v113, main_v114, main_v115, main_cst_30, main_v116, main_v117, main_v118, main_v119, main_v120, main_v121, main_v122, main_cst_31, main_v123, main_v124, main_v125, main_cst_32, main_v126, main_v127, main_cst_33, main_v128, main_v129, main_v130, main_cst_34, main_v131, main_v132, main_cst_35, main_v133, main_cst_36, main_v134, main_v135, main_v136, main_cst_37, main_v137, main_v138, main_v139, main_cst_38, main_v140, main_v141, main_v142, main_v143, main_v144]

/-- What stage F writes. -/
def putF : List (Ref sig .tc) :=
  [main_cst_39, main_v145, main_v146, main_v147, main_v148, main_v149, main_c_40, main_v150, main_v151, main_c_41, main_v152, main_v153, main_v154, main_c_42, main_v155, main_v156, main_c_43, main_v157, main_v158, main_v159, main_v160, main_v161, main_v162, main_v163, main_cst_44, main_call5_v0, main_call5_v1, main_v164, main_cst_45, main_v165, main_v166, main_cst_46, main_v167, main_cst_47, main_v168, main_v169, main_v170, main_v171, main_v172, main_v173, main_cst_48, main_call6_v0, main_call6_v1, main_v174, main_cst_49, main_v175, main_cst_50, main_call7_v0, main_call7_v1, main_v176, main_cst_51, main_v177, main_v178, main_v179, main_cst_52, main_v180, main_v181]

/-- Stage A writes nothing else. -/
theorem keepA (V : Valuation τ sig (Elt F)) (r : Ref sig .tc) (h : r ∉ putA) : after opsA V (Proc.devRef .tc r) = V (Proc.devRef .tc r) :=
  after_of_writes_sub opsA V (forall_writes_sub_of_map rfl) h

/-- Stage B writes nothing else. -/
theorem keepB (V : Valuation τ sig (Elt F)) (r : Ref sig .tc) (h : r ∉ putB) : after opsB V (Proc.devRef .tc r) = V (Proc.devRef .tc r) :=
  after_of_writes_sub opsB V (forall_writes_sub_of_map rfl) h

/-- Stage C writes nothing else. -/
theorem keepC (V : Valuation τ sig (Elt F)) (r : Ref sig .tc) (h : r ∉ putC) : after opsC V (Proc.devRef .tc r) = V (Proc.devRef .tc r) :=
  after_of_writes_sub opsC V (forall_writes_sub_of_map rfl) h

/-- Stage D writes nothing else. -/
theorem keepD (V : Valuation τ sig (Elt F)) (r : Ref sig .tc) (h : r ∉ putD) : after opsD V (Proc.devRef .tc r) = V (Proc.devRef .tc r) :=
  after_of_writes_sub opsD V (forall_writes_sub_of_map rfl) h

/-- Stage E writes nothing else. -/
theorem keepE (V : Valuation τ sig (Elt F)) (r : Ref sig .tc) (h : r ∉ putE) : after opsE V (Proc.devRef .tc r) = V (Proc.devRef .tc r) :=
  after_of_writes_sub opsE V (forall_writes_sub_of_map rfl) h

/-- Stage F writes nothing else. -/
theorem keepF (V : Valuation τ sig (Elt F)) (r : Ref sig .tc) (h : r ∉ putF) : after opsF V (Proc.devRef .tc r) = V (Proc.devRef .tc r) :=
  after_of_writes_sub opsF V (forall_writes_sub_of_map rfl) h

/-- A list of operations each of which names buffers of the TensorCore only. -/
abbrev Named (l : List (HloOp τ sig (Elt F))) : Prop := l.Forall fun op => op.bufs ⊆ tcRefs τ sig

/-- Stage A names buffers of the TensorCore only. -/
theorem namedA : Named (F := F) opsA :=
  ⟨unary_bufs_sub .., reshape_bufs_sub .., unary_bufs_sub .., reshape_bufs_sub .., nullary_bufs_sub .., nullary_bufs_sub .., nullary_bufs_sub .., quaternary_bufs_sub .., quaternary_bufs_sub .., reshape_bufs_sub .., nullary_bufs_sub .., nullary_bufs_sub .., nullary_bufs_sub .., quaternary_bufs_sub .., quaternary_bufs_sub .., reshape_bufs_sub .., reshape_bufs_sub .., unary_bufs_sub .., reshape_bufs_sub .., unary_bufs_sub .., nullary_bufs_sub .., unary_bufs_sub .., binary_bufs_sub ..⟩

/-- Stage B names buffers of the TensorCore only. -/
theorem namedB : Named (F := F) opsB :=
  ⟨unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., unary_bufs_sub .., ternary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub ..⟩

/-- Stage C names buffers of the TensorCore only. -/
theorem namedC : Named (F := F) opsC :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- Stage D names buffers of the TensorCore only. -/
theorem namedD : Named (F := F) opsD :=
  ⟨nullary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., binary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub ..⟩

/-- Stage E names buffers of the TensorCore only. -/
theorem namedE : Named (F := F) opsE :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- Stage F names buffers of the TensorCore only. -/
theorem namedF : Named (F := F) opsF :=
  ⟨nullary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., binary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., binary_bufs_sub .., binary_bufs_sub .., nullary_bufs_sub .., binary_bufs_sub .., binary_bufs_sub ..⟩

/-- So does the whole line. -/
theorem ops_named : Named (F := F) ops := by
  refine List.forall_iff_forall_mem.2 fun op h => ?_
  rcases List.mem_append.1 h with h | h
  · exact List.forall_iff_forall_mem.1 namedA op h
  rcases List.mem_append.1 h with h | h
  · exact List.forall_iff_forall_mem.1 namedB op h
  rcases List.mem_append.1 h with h | h
  · exact List.forall_iff_forall_mem.1 namedC op h
  rcases List.mem_append.1 h with h | h
  · exact List.forall_iff_forall_mem.1 namedD op h
  rcases List.mem_append.1 h with h | h
  · exact List.forall_iff_forall_mem.1 namedE op h
  · exact List.forall_iff_forall_mem.1 namedF op h

/-- No operation of the line makes a buffer. -/
theorem ops_fresh : ∀ op ∈ (ops : List (HloOp τ sig (Elt F))), op.fresh = ∅ :=
  List.forall_iff_forall_mem.1 (forall_fresh_of_map rfl)

variable (m : (ℓ : Loc nD τ sig) → Buf (Elt F) ℓ) (ρ : Dev nD → PrngReg)

/-- What the line leaves in the buffers. -/
abbrev final (c : Dev nD) : Valuation τ sig (Elt F) := after ops (launchContents m c)

/-- The run: every buffer ends at what the line leaves there. -/
theorem run : θ_run defs (onTc (τ := τ) (main (F := F))) ⟨m, fun _ => 0, ρ⟩ (fun r => ∀ (c : Dev nD) (b : Ref sig .tc),
    r.2.mem ((c.tc : Thread nD τ).loc b) = final m c (Proc.devRef .tc b)) :=
  run_seq (by decide) (by decide) defs main (fun _ => ops) main_eq (fun _ => ops_named) m ρ (fun _ => ops_fresh)

/-- A buffer that no stage writes ends as it was. -/
theorem final_of_not_put (c : Dev nD) (r : Ref sig .tc) (hA : r ∉ putA) (hB : r ∉ putB) (hC : r ∉ putC) (hD : r ∉ putD) (hE : r ∉ putE)
    (hF : r ∉ putF) : final m c (Proc.devRef .tc r) = m ((c.tc : Thread nD τ).loc r) := by
  unfold final ops
  rw [after_append, after_append, after_append, after_append, after_append, keepF _ r hF, keepE _ r hE, keepD _ r hD, keepC _ r hC,
    keepB _ r hB, keepA _ r hA]

/-- The arguments end as they were. -/
theorem args_kept (c : Dev nD) :
    final m c (Proc.devRef .tc main_arg0) = m ((c.tc : Thread nD τ).loc main_arg0)
    ∧ final m c (Proc.devRef .tc main_arg1) = m ((c.tc : Thread nD τ).loc main_arg1)
    ∧ final m c (Proc.devRef .tc main_arg2) = m ((c.tc : Thread nD τ).loc main_arg2)
    ∧ final m c (Proc.devRef .tc main_arg3) = m ((c.tc : Thread nD τ).loc main_arg3)
    ∧ final m c (Proc.devRef .tc main_arg4) = m ((c.tc : Thread nD τ).loc main_arg4)
    ∧ final m c (Proc.devRef .tc main_arg5) = m ((c.tc : Thread nD τ).loc main_arg5) := by
  refine ⟨?_, ?_, ?_, ?_, ?_, ?_⟩ <;> exact final_of_not_put m c _ (by decide) (by decide) (by decide) (by decide) (by decide) (by decide)

/-- The reference ends with its arguments as they were and every counter at zero. -/
theorem quiet : Cert.quiescent_ReferenceIdeal := by
  intro m ρ _
  refine θ_run_mono (run m ρ) fun r h => ⟨fun c => ?_, sem_eq_zero_of_no_sems (by decide) _⟩
  simp only [h c]
  exact args_kept m c

end Cert.ReferenceIdeal.Line
-- ==== Proof.Spec.lean ====
/- The loss as plain formulas over the extended reals: two domains of 65536 pixels, each pixel with 256 features, 19 class
   scores and a weight. -/
module

public import Idealize.ShloMosaic.Lib.Pointwise

@[expose] public section

noncomputable section

namespace Cert.Spec

open Idealize.ShloMosaic

/-- A domain: what is given of each pixel. -/
structure Dom where
  /-- features -/
  f : Fin 65536 → Fin 256 → EReal
  /-- class scores -/
  s : Fin 65536 → Fin 19 → EReal
  /-- weight -/
  w : Fin 65536 → EReal

/-- The domain of feature, score and weight images, pixels in row-major order. -/
def domOf (f : (⟨4, ![2, 256, 128, 256]⟩ : Shape).Idx → EReal) (s : (⟨4, ![2, 19, 128, 256]⟩ : Shape).Idx → EReal)
    (w : (⟨3, ![2, 128, 256]⟩ : Shape).Idx → EReal) : Dom where
  f n c := f (ix4 ⟨n.val / 32768, by omega⟩ c ⟨n.val / 256 % 128, by omega⟩ ⟨n.val % 256, by omega⟩)
  s n k := s (ix4 ⟨n.val / 32768, by omega⟩ k ⟨n.val / 256 % 128, by omega⟩ ⟨n.val % 256, by omega⟩)
  w n := w (ix3 ⟨n.val / 32768, by omega⟩ ⟨n.val / 256 % 128, by omega⟩ ⟨n.val % 256, by omega⟩)

/-- Weight 1 where the flag is set. -/
def flagged (c : (⟨3, ![2, 128, 256]⟩ : Shape).Idx → BitVec 1) (i : (⟨3, ![2, 128, 256]⟩ : Shape).Idx) : EReal := if c i = 1#1 then 1 else 0

/-- Weight 1 where the flag is clear. -/
def unflagged (c : (⟨3, ![2, 128, 256]⟩ : Shape).Idx → BitVec 1) (i : (⟨3, ![2, 128, 256]⟩ : Shape).Idx) : EReal := 1 - flagged c i

/-- The greatest of the first `k + 1` scores and the first class that has it. -/
def chain (x : Fin 19 → EReal) : ℕ → EReal × BitVec 32
  | 0 => (x 0, 0#32)
  | k + 1 => if (chain x k).1 < x (Fin.ofNat 19 (k + 1)) then (x (Fin.ofNat 19 (k + 1)), BitVec.ofNat 32 (k + 1)) else chain x k

/-- A pixel's label: its first class of greatest score. -/
def label (x : Fin 19 → EReal) : BitVec 32 := (chain x 18).2

/-- The sum of `g` over the pixels of class `k`. -/
def seg (D : Dom) (g : Fin 65536 → EReal) (k : Fin 19) : EReal :=
  ∑ n, if BitVec.ofNat 32 k.val = label (D.s n) then g n else 0

/-- A class's weighted feature sum over both domains. -/
def num (S T : Dom) (k : Fin 19) (c : Fin 256) : EReal :=
  seg S (fun n => S.f n c * S.w n) k + seg T (fun n => T.f n c * T.w n) k

/-- A class's total weight. -/
def den (S T : Dom) (k : Fin 19) : EReal := seg S S.w k + seg T T.w k

/-- A class's centroid. -/
def cen (S T : Dom) (k : Fin 19) (c : Fin 256) : EReal := Ideal.div (num S T k c) (max (den S T k) 1)

/-- Whether a class has any weight. -/
def has (S T : Dom) (k : Fin 19) : BitVec 1 := BitVec.ofBool (decide (0 < den S T k))

/-- A feature vector's distance to a centroid, over the number of features. -/
def dist (C : Fin 19 → Fin 256 → EReal) (x : Fin 256 → EReal) (k : Fin 19) : EReal :=
  Ideal.div (Ideal.sqrt (max (∑ c, x c * x c + ∑ c, C k c * C k c - Ideal.ofBits .f32 0x40000000#32 * ∑ c, x c * C k c) 0
    + Ideal.ofBits .f32 0x2B8CBCCC#32)) (Ideal.ofBits .f32 0x43800000#32)

/-- How many pixels a class has. -/
def cnt (D : Dom) (i : Fin 19) : EReal := seg D (fun _ => 1) i

/-- The mean distance of a class's pixels to each centroid. -/
def mean (C : Fin 19 → Fin 256 → EReal) (D : Dom) (i j : Fin 19) : EReal :=
  Ideal.div (seg D (fun n => dist C (D.f n) j) i) (max (cnt D i) 1)

/-- Whether a class has pixels in the domain and a centroid. -/
def valid (S T D : Dom) (i : Fin 19) : BitVec 1 := IntOp.andi (BitVec.ofBool (decide (0 < cnt D i))) (has S T i)

/-- The pull term: the mean over the valid classes of the distance to the class's own centroid. -/
def pull (M : Fin 19 → Fin 19 → EReal) (v : Fin 19 → BitVec 1) : EReal :=
  Ideal.div (∑ i, Scalar.select (v i) (M i i) 0) (max (∑ i, if v i = 1#1 then 1 else 0) 1)

/-- The push term: the least over the valid classes of the greatest distance to another class's centroid. -/
def push (M : Fin 19 → Fin 19 → EReal) (v p : Fin 19 → BitVec 1) : EReal :=
  Finset.univ.fold min ⊤ fun i => Scalar.select (v i) (Finset.univ.fold max ⊥ fun j => if i = j ∨ p j = 0#1 then ⊥ else M i j) ⊤

/-- The loss. -/
def loss (S T : Dom) : EReal :=
  pull (mean (cen S T) S) (valid S T S) + pull (mean (cen S T) T) (valid S T T)
    - Ideal.ofBits .f32 0x3DCCCCCD#32 * (push (mean (cen S T) S) (valid S T S) (has S T) + push (mean (cen S T) T) (valid S T T) (has S T))

end Cert.Spec
-- ==== Proof.Bits.lean ====
/- Words that stand for yes or no, and a few constants, as extended reals. -/
module

public import proofs.«01_k».proof.Proof.Spec
public import Idealize.ShloMosaic.Lib.IdealHost

@[expose] public section

set_option maxRecDepth 16384

noncomputable section

namespace Cert.Spec

open Idealize.ShloMosaic

/-- A bit is 0 or 1. -/
theorem bit_cases (b : BitVec 1) : b = 0#1 ∨ b = 1#1 := by
  revert b; decide

/-- Choosing by a bit. -/
theorem select_eq {α : Type} (c : BitVec 1) (a b : α) : Scalar.select c a b = if c = 1#1 then a else b := rfl

/-- A bit widened to a word and read as a signed number. -/
theorem sitofp_bit (b : BitVec 1) : FloatOps.sitofp (F := Ideal) .f32 (BitVec.setWidth 32 b) = if b = 1#1 then (1 : EReal) else 0 := by
  rcases bit_cases b with rfl | rfl <;> simp [FloatOps.sitofp]

/-- A bit read as an unsigned number. -/
theorem uitofp_bit (b : BitVec 1) : FloatOps.uitofp (F := Ideal) .f32 b = if b = 1#1 then (1 : EReal) else 0 := by
  rcases bit_cases b with rfl | rfl <;> simp [FloatOps.uitofp]

/-- Equality as a bit. -/
theorem cmpi_eq_one {w : ℕ} (a b : BitVec w) : IntOp.cmpi .eq a b = 1#1 ↔ a = b := by
  by_cases h : a = b
  · simp [IntOp.cmpi, h]
  · have : (a == b) = false := by simpa using h
    simp [IntOp.cmpi, h, this]

/-- A widened bit differs from zero exactly when the bit is one. -/
theorem cmpi_ne_widened (b : BitVec 1) : IntOp.cmpi .ne (BitVec.setWidth 32 b) 0#32 = b := by
  revert b; decide

/-- One bit or another's opposite. -/
theorem or_not_bit (a b : BitVec 1) : IntOp.ori a (IntOp.xori b 1#1) = 1#1 ↔ a = 1#1 ∨ b = 0#1 := by
  revert a b; decide

/-- The one-hot entry. -/
theorem hot_entry (a b : BitVec 32) : FloatOps.sitofp (F := Ideal) .f32 (BitVec.setWidth 32 (IntOp.cmpi .eq a b)) = if a = b then (1 : EReal) else 0 := by
  rw [sitofp_bit]
  simp only [cmpi_eq_one]

/-- Two class numbers are one class. -/
theorem ofNat_inj (i j : Fin 19) : BitVec.ofNat 32 i.val = BitVec.ofNat 32 j.val ↔ i = j :=
  (by decide : ∀ i j : Fin 19, BitVec.ofNat 32 i.val = BitVec.ofNat 32 j.val ↔ i = j) i j

/-- The word of positive infinity. -/
theorem ofBits_inf : Ideal.ofBits .f32 2139095040#32 = ⊤ := by simp [Ideal.ofBits, Ideal.ieee]
/-- The word of negative infinity. -/
theorem ofBits_neg_inf : Ideal.ofBits .f32 4286578688#32 = ⊥ := by simp [Ideal.ofBits, Ideal.ieee]

/-- Multiplying by the 256th part is dividing by 256. -/
theorem mul_256th (x : EReal) : x * Ideal.ofBits .f32 998244352#32 = Ideal.div x (Ideal.ofBits .f32 0x43800000#32) := by
  have h1 : Ideal.ofBits .f32 998244352#32 = ((1 / 256 : ℝ) : EReal) := by
    simp [Ideal.ofBits, Ideal.ieee]
    rw [← EReal.coe_mul]
    norm_num
  have h2 : Ideal.ofBits .f32 0x43800000#32 = ((256 : ℝ) : EReal) := by
    simp [Ideal.ofBits, Ideal.ieee]
    rw [← EReal.coe_mul]
    norm_num
  rw [h1, h2, Ideal.div, if_neg (by norm_num), ← EReal.coe_inv]
  norm_num

/-- A sum over 32 rows of 256 lanes, by the lane's number. -/
theorem sum_lanes (g : Fin 32 → Fin 256 → EReal) :
    ∑ j : Fin 8192, g ⟨j.val / 256, by omega⟩ ⟨j.val % 256, by omega⟩ = ∑ r, ∑ y, g r y := by
  rw [← Fintype.sum_prod_type']
  exact (Equiv.sum_comp (finProdFinEquiv (m := 32) (n := 256)).symm (fun x => g x.1 x.2))

/-- The pixel of lane `y` of row `r` of block `t`. -/
def pix (t : Fin 8) (r : Fin 32) (y : Fin 256) : Fin 65536 := ⟨8192 * t.val + 256 * r.val + y.val, by omega⟩

/-- A sum over the pixels, by blocks, rows and lanes. -/
theorem sum_pix (g : Fin 65536 → EReal) : ∑ n, g n = ∑ t, ∑ r, ∑ y, g (pix t r y) := by
  have h : ∀ t : Fin 8, ∑ r, ∑ y, g (pix t r y) = ∑ j : Fin 8192, g (finProdFinEquiv (t, j)) := fun t => by
    rw [← sum_lanes]
    refine Finset.sum_congr rfl fun j _ => congrArg g (Fin.ext ?_)
    show 8192 * t.val + 256 * (j.val / 256) + j.val % 256 = j.val + 8192 * t.val
    omega
  rw [Finset.sum_congr rfl fun t _ => h t]
  refine Eq.trans ?_ (Fintype.sum_prod_type' (f := fun (t : Fin 8) (j : Fin 8192) => g (finProdFinEquiv (t, j))))
  exact (Equiv.sum_comp (finProdFinEquiv (m := 8) (n := 8192)) g).symm

end Cert.Spec
-- ==== Proof.KRead.lean ====
/- The kernel's block computations read at an index, over the extended reals. -/
module

public import proofs.«01_k».proof.Proof.KState
public import proofs.«01_k».proof.Proof.Bits

@[expose] public section

set_option maxRecDepth 16384

noncomputable section

namespace Cert.KernelIdeal.Pass

open Idealize.ShloMosaic Idealize.ShloMosaic.TcCoe Cert.KernelIdeal.Gen Cert.KernelIdeal

/-! ## Labels -/

/-- Every class has its plane of a block's scores. -/
theorem plane_ok : ∀ k : Fin 19, S19x32x256.Slices ![k.val, 0, 0] S1x32x256 := by decide

/-- The plane of a class. -/
def planeAt (x : FVec Ideal S19x32x256 .f32) (k : Fin 19) : FVec Ideal S32x256 .f32 :=
  shapeCast S32x256 (extractStridedSlice S1x32x256 ![k.val, 0, 0] x (plane_ok k)) Facts₀.shapeCasts_S1x32x256_S32x256

/-- The plane of class `k` (classes counted modulo 19). -/
def plane (x : FVec Ideal S19x32x256 .f32) (k : ℕ) : FVec Ideal S32x256 .f32 := planeAt x (Fin.ofNat 19 k)

/-- The greatest score so far at each pixel. -/
def best (x : FVec Ideal S19x32x256 .f32) : ℕ → FVec Ideal S32x256 .f32
  | 0 => plane x 0
  | k + 1 => select (cmpf .ogt (plane x (k + 1)) (best x k)) (plane x (k + 1)) (best x k)

/-- The class that has it. -/
def lab (x : FVec Ideal S19x32x256 .f32) : ℕ → IVec S32x256 32
  | 0 => broadcast S32x256 0#32
  | k + 1 => select (cmpf .ogt (plane x (k + 1)) (best x k)) (broadcast S32x256 (BitVec.ofNat 32 (k + 1))) (lab x k)

/-- The source labels are the search's. -/
theorem labS_eq (x : Vec Ideal S19x32x256 .f32) : labS (F := Ideal) x = lab (k0_pay11 x) 18 := rfl
/-- The target labels are the search's. -/
theorem labT_eq (x : Vec Ideal S19x32x256 .f32) : labT (F := Ideal) x = shapeCast S32x256 (lab (k0_pay65 x) 18) Facts₀.shapeCasts_S32x256_S32x256 := rfl
/-- The target's one-hot table is made of the search's labels. -/
theorem hotT_eq (x : Vec Ideal S19x32x256 .f32) : hotT (F := Ideal) x = k0_pay115 (lab (k0_pay65 x) 18) := rfl
/-- The first use of a block's scores casts them to their own shape. -/
theorem pay11_eq (x : Vec Ideal S19x32x256 .f32) : k0_pay11 (F := Ideal) x = x := by
  unfold k0_pay11
  funext j
  pointwise
/-- So does the second. -/
theorem pay65_eq (x : Vec Ideal S19x32x256 .f32) : k0_pay65 (F := Ideal) x = x := by
  unfold k0_pay65
  funext j
  pointwise

/-- A plane at a pixel. -/
theorem plane_apply (x : FVec Ideal S19x32x256 .f32) (k : ℕ) (r : Fin 32) (y : Fin 256) : plane x k (ix2 r y) = x (ix3 (Fin.ofNat 19 k) r y) := by
  have h : ∀ k : Fin 19, planeAt x k (ix2 r y) = x (ix3 k r y) := fun k => by
    unfold planeAt
    fin_cases k <;> pointwise
  exact h _

/-- The search at a pixel is the search over the pixel's scores. -/
theorem search_apply (x : FVec Ideal S19x32x256 .f32) (r : Fin 32) (y : Fin 256) (k : ℕ) :
    best x k (ix2 r y) = (Spec.chain (fun q => x (ix3 q r y)) k).1 ∧ lab x k (ix2 r y) = (Spec.chain (fun q => x (ix3 q r y)) k).2 := by
  induction k with
  | zero => exact ⟨plane_apply x 0 r y, rfl⟩
  | succ k ih =>
    simp only [best, lab, Spec.chain]
    pointwise
    rw [ih.1, ih.2, plane_apply]
    split_ifs <;> exact ⟨rfl, rfl⟩

/-- The label of a pixel of a block of scores. -/
def lb (x : Vec Ideal S19x32x256 .f32) (r : Fin 32) (y : Fin 256) : BitVec 32 := Spec.label (fun q => x (ix3 q r y))

/-- The source labels at a pixel. -/
theorem labS_apply (x : Vec Ideal S19x32x256 .f32) (r : Fin 32) (y : Fin 256) : labS x (ix2 r y) = lb x r y := by
  rw [labS_eq, pay11_eq]
  exact (search_apply x r y 18).2

/-- The target labels at a pixel. -/
theorem labT_apply (x : Vec Ideal S19x32x256 .f32) (r : Fin 32) (y : Fin 256) : labT x (ix2 r y) = lb x r y := by
  rw [labT_eq, pay65_eq]
  pointwise
  exact (search_apply x r y 18).2

/-- Storing keeps the source labels. -/
theorem pay113_apply (l : IVec S32x256 32) (r : Fin 32) (y : Fin 256) : k0_pay113 l (ix2 r y) = l (ix2 r y) := by
  unfold k0_pay113
  pointwise

/-- The source's one-hot table. -/
theorem hotS_apply (x : Vec Ideal S19x32x256 .f32) (k : Fin 19) (r : Fin 32) (y : Fin 256) :
    hotS x (ix3 k r y) = if BitVec.ofNat 32 k.val = lb x r y then (1 : EReal) else 0 := by
  unfold hotS k0_pay115
  pointwise
  rw [labS_apply, Spec.hot_entry]

/-- The target's one-hot table. -/
theorem hotT_apply (x : Vec Ideal S19x32x256 .f32) (k : Fin 19) (r : Fin 32) (y : Fin 256) :
    hotT x (ix3 k r y) = if BitVec.ofNat 32 k.val = lb x r y then (1 : EReal) else 0 := by
  rw [hotT_eq, pay65_eq]
  unfold k0_pay115
  pointwise
  rw [(search_apply x r y 18).2, Spec.hot_entry]
  rfl

/-! ## Sums over a block -/

/-- The sum of `g` over a block's pixels of class `k`. -/
def bs (l : Fin 32 → Fin 256 → BitVec 32) (g : Fin 32 → Fin 256 → EReal) (k : Fin 19) : EReal :=
  ∑ r, ∑ y, if BitVec.ofNat 32 k.val = l r y then g r y else 0

/-- The source's weight at a pixel of a block. -/
def ws (x : Vec Ideal S1x32x256 .i32) (r : Fin 32) (y : Fin 256) : EReal :=
  FloatOps.sitofp (F := Ideal) .f32 (BitVec.setWidth 32 (IntOp.cmpi .ne (x (ix3 0 r y)) 0#32))

/-- The source's weights, one plane per class. -/
theorem pay117_apply (x : Vec Ideal S1x32x256 .i32) (k : Fin 19) (r : Fin 32) (y : Fin 256) : k0_pay117 x (ix3 k r y) = ws x r y := by
  unfold k0_pay117
  pointwise
  rfl

/-- The weighted one-hot table of the source. -/
theorem pay118_apply (x : Vec Ideal S19x32x256 .f32) (w : Vec Ideal S1x32x256 .i32) (k : Fin 19) (r : Fin 32) (y : Fin 256) :
    k0_pay118 (hotS x) (k0_pay117 w) (ix3 k r y) = if BitVec.ofNat 32 k.val = lb x r y then ws w r y else 0 := by
  unfold k0_pay118
  pointwise
  rw [hotS_apply, pay117_apply, ite_mul, one_mul, zero_mul]

/-- The weighted one-hot table of the target. -/
theorem pay119_apply (x : Vec Ideal S19x32x256 .f32) (w : Vec Ideal S1x32x256 .i32) (k : Fin 19) (r : Fin 32) (y : Fin 256) :
    k0_pay119 (hotT x) w (ix3 k r y) = if BitVec.ofNat 32 k.val = lb x r y then 1 - ws w r y else 0 := by
  unfold k0_pay119
  pointwise
  rw [hotT_apply, ite_mul, one_mul, zero_mul]
  rfl

/-- A feature times such an entry. -/
theorem entry_mul {p : Prop} [Decidable p] {a w : EReal} (ha : a = if p then w else 0) (x : EReal) : x * a = if p then x * w else 0 := by
  rw [ha, mul_ite, mul_zero]

/-- A block's feature sums per class. -/
theorem numStep_apply (b : Blk Ideal) (num : Vec Ideal S256x19 .f32) (k : Fin 19) (c : Fin 256) :
    numStep b num (ix2 c k) = num (ix2 c k) + (bs (lb b.ss) (fun r y => b.sf (ix3 c r y) * ws b.sw r y) k
      + bs (lb b.ts) (fun r y => b.tf (ix3 c r y) * (1 - ws b.tw r y)) k) := by
  unfold numStep k0_pay120
  pointwise
  refine congrArg (fun z : EReal => num (ix2 c k) + z) (congrArg₂ (fun z z' : EReal => z + z') ?_ ?_)
  · refine Eq.trans ?_ (Spec.sum_lanes fun r y => if BitVec.ofNat 32 k.val = lb b.ss r y then b.sf (ix3 c r y) * ws b.sw r y else 0)
    exact Finset.sum_congr rfl fun j _ => entry_mul (pay118_apply b.ss b.sw k _ _) _
  · refine Eq.trans ?_ (Spec.sum_lanes fun r y => if BitVec.ofNat 32 k.val = lb b.ts r y then b.tf (ix3 c r y) * (1 - ws b.tw r y) else 0)
    exact Finset.sum_congr rfl fun j _ => entry_mul (pay119_apply b.ts b.tw k _ _) _

/-- A block's source weight per class. -/
theorem aux0_apply (b : Blk Ideal) (aux : Vec Ideal S19x4 .f32) (k : Fin 19) :
    auxStep b aux (ix2 k 0) = aux (ix2 k 0) + bs (lb b.ss) (ws b.sw) k := by
  unfold auxStep k0_pay5 k0_pay121
  pointwise
  exact congrArg (fun z : EReal => aux (ix2 k 0) + z) (Finset.sum_congr rfl fun r _ => Finset.sum_congr rfl fun y _ => pay118_apply b.ss b.sw k r y)

/-- A block's target weight per class. -/
theorem aux1_apply (b : Blk Ideal) (aux : Vec Ideal S19x4 .f32) (k : Fin 19) :
    auxStep b aux (ix2 k 1) = aux (ix2 k 1) + bs (lb b.ts) (fun r y => 1 - ws b.tw r y) k := by
  unfold auxStep k0_pay5 k0_pay122
  pointwise
  exact congrArg (fun z : EReal => aux (ix2 k 1) + z) (Finset.sum_congr rfl fun r _ => Finset.sum_congr rfl fun y _ => pay119_apply b.ts b.tw k r y)

/-- A block's number of source pixels per class. -/
theorem aux2_apply (b : Blk Ideal) (aux : Vec Ideal S19x4 .f32) (k : Fin 19) :
    auxStep b aux (ix2 k 2) = aux (ix2 k 2) + bs (lb b.ss) (fun _ _ => 1) k := by
  unfold auxStep k0_pay5
  pointwise
  exact congrArg (fun z : EReal => aux (ix2 k 2) + z) (Finset.sum_congr rfl fun r _ => Finset.sum_congr rfl fun y _ => hotS_apply b.ss k r y)

/-- A block's number of target pixels per class. -/
theorem aux3_apply (b : Blk Ideal) (aux : Vec Ideal S19x4 .f32) (k : Fin 19) :
    auxStep b aux (ix2 k 3) = aux (ix2 k 3) + bs (lb b.ts) (fun _ _ => 1) k := by
  unfold auxStep k0_pay5
  pointwise
  exact congrArg (fun z : EReal => aux (ix2 k 3) + z) (Finset.sum_congr rfl fun r _ => Finset.sum_congr rfl fun y _ => hotT_apply b.ts k r y)

/-- The centroids from the sums. -/
theorem pay7_apply (a b : Vec Ideal S19x1 .f32) (n : Vec Ideal S256x19 .f32) (k : Fin 19) (c : Fin 256) :
    k0_pay7 a b n (ix2 k c) = Ideal.div (n (ix2 c k)) (max (a (ix2 k 0) + b (ix2 k 0)) 1) := by
  unfold k0_pay7 k0_pay6
  pointwise

/-- The squared norms of the centroids from the sums. -/
theorem pay8_apply (a b : Vec Ideal S19x1 .f32) (n : Vec Ideal S256x19 .f32) (k : Fin 19) :
    k0_pay8 a b n (ix2 k 0) = ∑ c, Ideal.div (n (ix2 c k)) (max (a (ix2 k 0) + b (ix2 k 0)) 1) * Ideal.div (n (ix2 c k)) (max (a (ix2 k 0) + b (ix2 k 0)) 1) := by
  unfold k0_pay8 k0_pay6
  pointwise

/-- A block's source distances per class and centroid. -/
theorem pay124_apply (cen : Vec Ideal S19x256 .bf16) (c2 : Vec Ideal S19x1 .f32) (sd : Vec Ideal S19x19 .f32) (x : Vec Ideal S256x32x256 .f32)
    (l : Vec Ideal S32x256 .i32) (C : Fin 19 → Fin 256 → EReal) (h : ∀ k c, cen (ix2 k c) = C k c) (h2 : ∀ k, c2 (ix2 k 0) = ∑ c, C k c * C k c) (k q : Fin 19) :
    k0_pay124 cen c2 sd x l (ix2 k q) = sd (ix2 k q) + bs (fun r y => l (ix2 r y)) (fun r y => Spec.dist C (fun c => x (ix3 c r y)) k) q := by
  unfold k0_pay124 k0_pay123
  pointwise
  simp only [h, h2, Spec.hot_entry, Spec.mul_256th, mul_ite, mul_one, mul_zero]
  rw [Spec.sum_lanes (fun r y => if BitVec.ofNat 32 q.val = l (ix2 r y) then Ideal.div (Ideal.sqrt (max ((∑ c, x (ix3 c r y) * x (ix3 c r y)) + (∑ c, C k c * C k c) - Ideal.ofBits .f32 1073741824#32 * ∑ c, C k c * x (ix3 c r y)) 0 + Ideal.ofBits .f32 730643660#32)) (Ideal.ofBits .f32 0x43800000#32) else 0)]
  unfold bs Spec.dist
  simp only [mul_comm (C k _) (x _)]

/-- A block's target distances per class and centroid. -/
theorem pay9_apply (cen : Vec Ideal S19x256 .bf16) (c2 : Vec Ideal S19x1 .f32) (sd : Vec Ideal S19x19 .f32) (x : Vec Ideal S256x32x256 .f32)
    (l : Vec Ideal S32x256 .i32) (C : Fin 19 → Fin 256 → EReal) (h : ∀ k c, cen (ix2 k c) = C k c) (h2 : ∀ k, c2 (ix2 k 0) = ∑ c, C k c * C k c) (k q : Fin 19) :
    k0_pay9 cen c2 k0_pay123 sd x l (ix2 k q) = sd (ix2 k q) + bs (fun r y => l (ix2 r y)) (fun r y => Spec.dist C (fun c => x (ix3 c r y)) k) q := by
  rw [← pay124_apply cen c2 sd x l C h h2]
  unfold k0_pay124 k0_pay9 k0_pay123
  pointwise

/-! ## The loss of the sums -/

/-- Whether a class has any weight, as the kernel's sums have it. -/
def hasOf (c0 c1 : Vec Ideal S19x1 .f32) (k : Fin 19) : BitVec 1 := BitVec.ofBool (decide (0 < c0 (ix2 k 0) + c1 (ix2 k 0)))
/-- Whether a class is valid, as the kernel's sums have it. -/
def validOf (c0 c1 c2 : Vec Ideal S19x1 .f32) (k : Fin 19) : BitVec 1 := IntOp.andi (BitVec.ofBool (decide (0 < c2 (ix2 k 0)))) (hasOf c0 c1 k)
/-- The mean distances, as the kernel's sums have them. -/
def meanOf (sd : Vec Ideal S19x19 .f32) (c2 : Vec Ideal S19x1 .f32) (i j : Fin 19) : EReal := Ideal.div (sd (ix2 j i)) (max (c2 (ix2 i 0)) 1)

/-- The pull term as the kernel forms it: the diagonal by an equality table, the sums in two steps. -/
theorem pull_read (M : Fin 19 → Fin 19 → EReal) (v : Fin 19 → BitVec 1) (e : Fin 19 → Fin 19 → BitVec 1)
    (he : ∀ x z, e x z = IntOp.cmpi .eq (BitVec.ofNat 32 x.val) (BitVec.ofNat 32 z.val)) :
    Ideal.div (∑ x : Fin 19, ∑ _y : Fin 1, Scalar.select (v x) (∑ z : Fin 19, Scalar.select (e x z) (M x z) 0) 0)
      (max (∑ x : Fin 19, ∑ _y : Fin 1, FloatOps.sitofp (F := Ideal) .f32 (BitVec.setWidth 32 (v x))) 1) = Spec.pull M v := by
  have h : ∀ x z : Fin 19, Scalar.select (e x z) (M x z) 0 = if x = z then M x z else 0 := fun x z => by
    simp only [he, Spec.select_eq, Spec.cmpi_eq_one, Spec.ofNat_inj]
  simp only [h, Finset.sum_ite_eq, Finset.mem_univ, if_true, Spec.sitofp_bit, Finset.univ_unique, Finset.sum_singleton]
  rfl

/-- A fold over pairs whose second part is trivial. -/
theorem fold_pair (f : Fin 19 → EReal) (a : EReal) :
    Finset.univ.fold min a (fun x : Fin 19 × Fin 1 => f x.1) = Finset.univ.fold min a f := by
  rw [← Finset.map_univ_equiv (Equiv.prodUnique (Fin 19) (Fin 1)), Finset.fold_map]
  rfl

/-- The push term as the kernel forms it. -/
theorem push_read (M : Fin 19 → Fin 19 → EReal) (v p : Fin 19 → BitVec 1) (o : Fin 19 → Fin 19 → BitVec 1)
    (ho : ∀ x z, o x z = IntOp.ori (IntOp.cmpi .eq (BitVec.ofNat 32 x.val) (BitVec.ofNat 32 z.val)) (IntOp.xori (p z) 1#1)) :
    Finset.univ.fold min (Ideal.ofBits .f32 2139095040#32) (fun x : Fin 19 × Fin 1 => Scalar.select (v x.1)
      (Finset.univ.fold max (Ideal.ofBits .f32 4286578688#32) (fun z : Fin 19 => Scalar.select (o x.1 z) (0 - Ideal.ofBits .f32 2139095040#32) (M x.1 z)))
      (Ideal.ofBits .f32 2139095040#32)) = Spec.push M v p := by
  refine (fold_pair (fun x => Scalar.select (v x) (Finset.univ.fold max (Ideal.ofBits .f32 4286578688#32) (fun z : Fin 19 => Scalar.select (o x z) (0 - Ideal.ofBits .f32 2139095040#32) (M x z)))
      (Ideal.ofBits .f32 2139095040#32)) _).trans ?_
  have h : ∀ x z : Fin 19, Scalar.select (o x z) (0 - Ideal.ofBits .f32 2139095040#32) (M x z) = if x = z ∨ p z = 0#1 then ⊥ else M x z := fun x z => by
    rw [ho, Spec.ofBits_inf, Spec.select_eq, zero_sub, EReal.neg_top]
    exact if_congr (Spec.or_not_bit _ _ |>.trans (or_congr ((Spec.cmpi_eq_one _ _).trans (Spec.ofNat_inj _ _)) Iff.rfl)) rfl rfl
  simp only [h]
  simp only [Spec.ofBits_inf, Spec.ofBits_neg_inf]
  rfl

/-- The table of classes with weight. -/
theorem pay125_apply (c0 c1 : Vec Ideal S19x1 .f32) (k : Fin 19) : k0_pay125 c0 c1 (ix2 k 0) = hasOf c0 c1 k := by
  unfold k0_pay125
  pointwise
  rfl

/-- The equality table. -/
theorem pay126_apply (x z : Fin 19) : k0_pay126 (ix2 x z) = IntOp.cmpi .eq (BitVec.ofNat 32 x.val) (BitVec.ofNat 32 z.val) := by
  unfold k0_pay126
  pointwise

/-- The mean source distances. -/
theorem pay127_apply (sd : Vec Ideal S19x19 .f32) (c2 : Vec Ideal S19x1 .f32) (i j : Fin 19) : k0_pay127 sd c2 (ix2 i j) = meanOf sd c2 i j := by
  unfold k0_pay127
  pointwise
  rfl

/-- The mean target distances. -/
theorem pay132_apply (sd : Vec Ideal S19x19 .f32) (c2 : Vec Ideal S19x1 .f32) (i j : Fin 19) : k0_pay132 sd c2 (ix2 i j) = meanOf sd c2 i j := by
  unfold k0_pay132
  pointwise
  rfl

/-- The valid source classes. -/
theorem pay128_apply (c0 c1 c2 : Vec Ideal S19x1 .f32) (k : Fin 19) : k0_pay128 c0 c1 c2 (ix2 k 0) = validOf c0 c1 c2 k := by
  unfold k0_pay128
  pointwise
  rw [pay125_apply]
  rfl

/-- The valid target classes. -/
theorem pay133_apply (c0 c1 c2 : Vec Ideal S19x1 .f32) (k : Fin 19) : k0_pay133 (k0_pay125 c0 c1) c2 (ix2 k 0) = validOf c0 c1 c2 k := by
  unfold k0_pay133
  pointwise
  rw [pay125_apply]
  rfl

/-- The entries the source's push term leaves out. -/
theorem pay130_apply (c0 c1 : Vec Ideal S19x1 .f32) (x z : Fin 19) :
    k0_pay130 c0 c1 (ix2 x z) = IntOp.ori (IntOp.cmpi .eq (BitVec.ofNat 32 x.val) (BitVec.ofNat 32 z.val)) (IntOp.xori (hasOf c0 c1 z) 1#1) := by
  unfold k0_pay130
  pointwise
  rw [pay125_apply, pay126_apply]

/-- The entries the target's push term leaves out. -/
theorem pay135_apply (c0 c1 : Vec Ideal S19x1 .f32) (x z : Fin 19) :
    k0_pay135 (k0_pay125 c0 c1) k0_pay126 (ix2 x z) = IntOp.ori (IntOp.cmpi .eq (BitVec.ofNat 32 x.val) (BitVec.ofNat 32 z.val)) (IntOp.xori (hasOf c0 c1 z) 1#1) := by
  unfold k0_pay135
  pointwise
  rw [pay125_apply, pay126_apply]

/-- The source's pull term. -/
theorem pay129_apply (c0 c1 c2 : Vec Ideal S19x1 .f32) (sd : Vec Ideal S19x19 .f32) :
    k0_pay129 c0 c1 sd c2 = Spec.pull (meanOf sd c2) (validOf c0 c1 c2) := by
  rw [← funext (pay128_apply c0 c1 c2), ← funext fun i => funext (pay127_apply sd c2 i)]
  unfold k0_pay129
  pointwise
  exact pull_read (fun i j => k0_pay127 sd c2 (ix2 i j)) (fun k => k0_pay128 c0 c1 c2 (ix2 k 0)) (fun x z => k0_pay126 (ix2 x z)) pay126_apply

/-- The target's pull term. -/
theorem pay134_apply (c0 c1 c2 : Vec Ideal S19x1 .f32) (sd : Vec Ideal S19x19 .f32) :
    k0_pay134 (k0_pay125 c0 c1) k0_pay126 sd c2 = Spec.pull (meanOf sd c2) (validOf c0 c1 c2) := by
  rw [← funext (pay133_apply c0 c1 c2), ← funext fun i => funext (pay132_apply sd c2 i)]
  unfold k0_pay134
  pointwise
  exact pull_read (fun i j => k0_pay132 sd c2 (ix2 i j)) (fun k => k0_pay133 (k0_pay125 c0 c1) c2 (ix2 k 0)) (fun x z => k0_pay126 (ix2 x z)) pay126_apply

/-- The source's push term. -/
theorem pay131_apply (c0 c1 c2 : Vec Ideal S19x1 .f32) (sd : Vec Ideal S19x19 .f32) :
    k0_pay131 (k0_pay127 sd c2) (k0_pay128 c0 c1 c2) (k0_pay130 c0 c1) (Scalar.ofBits .f32 0x00000000#32) (Scalar.ofBits .f32 0x7F800000#32)
      = Spec.push (meanOf sd c2) (validOf c0 c1 c2) (hasOf c0 c1) := by
  rw [← funext (pay128_apply c0 c1 c2), ← funext fun i => funext (pay127_apply sd c2 i)]
  unfold k0_pay131
  pointwise
  exact push_read (fun i j => k0_pay127 sd c2 (ix2 i j)) (fun k => k0_pay128 c0 c1 c2 (ix2 k 0)) (hasOf c0 c1) (fun x z => k0_pay130 c0 c1 (ix2 x z)) (pay130_apply c0 c1)

/-- The loss from its terms; the target's push term is formed here. -/
theorem pay10_apply (a b d : EReal) (c0 c1 c3 : Vec Ideal S19x1 .f32) (td : Vec Ideal S19x19 .f32) :
    k0_pay10 (F := Ideal) a b (k0_pay132 td c3) (k0_pay133 (k0_pay125 c0 c1) c3) d (k0_pay135 (k0_pay125 c0 c1) k0_pay126) (Scalar.ofBits .f32 0x00000000#32) (ix2 0 0)
      = a + d - Ideal.ofBits .f32 0x3DCCCCCD#32 * (b + Spec.push (meanOf td c3) (validOf c0 c1 c3) (hasOf c0 c1)) := by
  rw [← funext (pay133_apply c0 c1 c3), ← funext fun i => funext (pay132_apply td c3 i)]
  unfold k0_pay10
  pointwise
  exact congrArg (fun z : EReal => a + d - Ideal.ofBits .f32 0x3DCCCCCD#32 * (b + z)) (push_read (fun i j => k0_pay132 td c3 (ix2 i j)) (fun k => k0_pay133 (k0_pay125 c0 c1) c3 (ix2 k 0)) (hasOf c0 c1)
    (fun x z => k0_pay135 (k0_pay125 c0 c1) k0_pay126 (ix2 x z)) (pay135_apply c0 c1))

/-- The loss of a scratch. -/
theorem lossOf_apply (s : St Ideal) :
    lossOf s (ix2 0 0) = Spec.pull (meanOf s.sd (col 2 s.aux)) (validOf (col 0 s.aux) (col 1 s.aux) (col 2 s.aux))
      + Spec.pull (meanOf s.td (col 3 s.aux)) (validOf (col 0 s.aux) (col 1 s.aux) (col 3 s.aux))
      - Ideal.ofBits .f32 0x3DCCCCCD#32 * (Spec.push (meanOf s.sd (col 2 s.aux)) (validOf (col 0 s.aux) (col 1 s.aux) (col 2 s.aux)) (hasOf (col 0 s.aux) (col 1 s.aux))
        + Spec.push (meanOf s.td (col 3 s.aux)) (validOf (col 0 s.aux) (col 1 s.aux) (col 3 s.aux)) (hasOf (col 0 s.aux) (col 1 s.aux))) := by
  unfold lossOf
  rw [← pay129_apply, ← pay134_apply, ← pay131_apply]
  exact pay10_apply _ _ _ _ _ _ _

end Cert.KernelIdeal.Pass
-- ==== Proof.KValue.lean ====
/- The loss the kernel's two passes end with, when the blocks they read are those of two given domains. -/
module

public import proofs.«01_k».proof.Proof.KRead

@[expose] public section

set_option maxRecDepth 16384

noncomputable section

namespace Cert.KernelIdeal.Pass

open Idealize.ShloMosaic Idealize.ShloMosaic.TcCoe Cert.KernelIdeal.Gen Cert.KernelIdeal

/-- The block of pixels that point `t` works on: the first pass goes up, the second comes down. -/
def blkNo (t : ℕ) : ℕ := if t < 8 then t else 15 - t

/-- A pixel by the number of its block (blocks counted modulo 8). -/
def px (u : ℕ) (r : Fin 32) (y : Fin 256) : Fin 65536 := Spec.pix (Fin.ofNat 8 u) r y

/-- The blocks read at the grid points are those of the domains `S` and `T`. -/
structure Feeds (B : Fin grid0.N → Blk Ideal) (S T : Spec.Dom) : Prop where
  sf : ∀ t c r y, (B t).sf (ix3 c r y) = S.f (px (blkNo t.val) r y) c
  tf : ∀ t c r y, (B t).tf (ix3 c r y) = T.f (px (blkNo t.val) r y) c
  ss : ∀ t, t.val < 8 → ∀ k r y, (B t).ss (ix3 k r y) = S.s (px t.val r y) k
  ts : ∀ t, t.val < 8 → ∀ k r y, (B t).ts (ix3 k r y) = T.s (px t.val r y) k
  sw : ∀ t, t.val < 8 → ∀ r y, ws (B t).sw r y = S.w (px t.val r y)
  tw : ∀ t, t.val < 8 → ∀ r y, 1 - ws (B t).tw r y = T.w (px t.val r y)

/-- The part of a class's sum that is over block `u`. -/
def segB (D : Spec.Dom) (g : Fin 65536 → EReal) (k : Fin 19) (u : ℕ) : EReal :=
  bs (fun r y => Spec.label (D.s (px u r y))) (fun r y => g (px u r y)) k

/-- The parts over the eight blocks make the class's sum. -/
theorem seg_eq (D : Spec.Dom) (g : Fin 65536 → EReal) (k : Fin 19) : ∑ u ∈ Finset.range 8, segB D g k u = Spec.seg D g k := by
  rw [Finset.sum_range, Spec.seg, Spec.sum_pix]
  refine Finset.sum_congr rfl fun t _ => ?_
  have h : ∀ r y, px t.val r y = Spec.pix t r y := fun r y => by
    unfold px
    rw [Fin.ofNat_val_eq_self]
  unfold segB bs
  simp only [h]

/-- In whichever order the blocks are taken. -/
theorem seg_eq_down (D : Spec.Dom) (g : Fin 65536 → EReal) (k : Fin 19) : ∑ u ∈ Finset.range 8, segB D g k (7 - u) = Spec.seg D g k :=
  (Finset.sum_range_reflect (segB D g k) 8).trans (seg_eq D g k)

variable (B : Fin grid0.N → Blk Ideal) (S T : Spec.Dom) (hB : Feeds B S T) (s0 : St Ideal)

/-! ## The first pass -/

/-- What the scratch holds after the first `n` blocks. -/
structure After1 (n : ℕ) (s : St Ideal) : Prop where
  num : ∀ k c, s.num (ix2 c k) = ∑ u ∈ Finset.range n, (segB S (fun n => S.f n c * S.w n) k u + segB T (fun n => T.f n c * T.w n) k u)
  aux0 : ∀ k, s.aux (ix2 k 0) = ∑ u ∈ Finset.range n, segB S S.w k u
  aux1 : ∀ k, s.aux (ix2 k 1) = ∑ u ∈ Finset.range n, segB T T.w k u
  aux2 : ∀ k, s.aux (ix2 k 2) = ∑ u ∈ Finset.range n, segB S (fun _ => 1) k u
  aux3 : ∀ k, s.aux (ix2 k 3) = ∑ u ∈ Finset.range n, segB T (fun _ => 1) k u
  slab : ∀ y : S256x256.Idx, ∀ u r, u < n → (y 0).val = 32 * u + r.val → s.slab y = Spec.label (S.s (px u r (y 1)))
  tlab : ∀ y : S256x256.Idx, ∀ u r, u < n → (y 0).val = 32 * u + r.val → s.tlab y = Spec.label (T.s (px u r (y 1)))
  sd : ∀ k q, s.sd (ix2 k q) = 0
  td : ∀ k q, s.td (ix2 k q) = 0

/-- Before the first block. -/
theorem after1_zero (s : St Ideal) : After1 S T 0 (cleared s) where
  num k c := by
    show k0_pay1 (F := Ideal) (ix2 c k) = _
    unfold k0_pay1; pointwise; rfl
  aux0 k := by
    show k0_pay2 (F := Ideal) (ix2 k 0) = _
    unfold k0_pay2; pointwise; rfl
  aux1 k := by
    show k0_pay2 (F := Ideal) (ix2 k 1) = _
    unfold k0_pay2; pointwise; rfl
  aux2 k := by
    show k0_pay2 (F := Ideal) (ix2 k 2) = _
    unfold k0_pay2; pointwise; rfl
  aux3 k := by
    show k0_pay2 (F := Ideal) (ix2 k 3) = _
    unfold k0_pay2; pointwise; rfl
  slab _ _ _ h _ := absurd h (Nat.not_lt_zero _)
  tlab _ _ _ h _ := absurd h (Nat.not_lt_zero _)
  sd k q := by
    show k0_pay3 (F := Ideal) (ix2 k q) = _
    unfold k0_pay3; pointwise
  td k q := by
    show k0_pay4 (F := Ideal) (ix2 k q) = _
    unfold k0_pay4; pointwise

/-- A block's sum is the domain's over that block. -/
theorem bs_eq (D : Spec.Dom) (g : Fin 65536 → EReal) (k : Fin 19) (u : ℕ) (l : Fin 32 → Fin 256 → BitVec 32) (h : Fin 32 → Fin 256 → EReal)
    (hl : ∀ r y, l r y = Spec.label (D.s (px u r y))) (hh : ∀ r y, h r y = g (px u r y)) : bs l h k = segB D g k u := by
  unfold segB bs
  simp only [hl, hh]

/-- Storing a block's labels. -/
theorem labels_put (D : Spec.Dom) (t : Fin grid0.N) (ht : t.val < 8) (p : IVec S32x256 32) (old : Vec Ideal S256x256 .i32)
    (hp : ∀ r y, p (ix2 r y) = Spec.label (D.s (px t.val r y)))
    (ho : ∀ y : S256x256.Idx, ∀ u r, u < t.val → (y 0).val = 32 * u + r.val → old y = Spec.label (D.s (px u r (y 1))))
    (y : S256x256.Idx) (u : ℕ) (r : Fin 32) (hu : u < t.val + 1) (hy : (y 0).val = 32 * u + r.val) :
    putRows (F := Ideal) (k0_off1 (grid0.coords t) 0) p old y = Spec.label (D.s (px u r (y 1))) := by
  rw [off1_eq t ht]
  show putRows (F := Ideal) (32 * t.val) p old y = _
  have hr := r.isLt
  by_cases hut : u = t.val
  · subst hut
    rw [putRows_of_mem _ _ _ _ ⟨by omega, by omega⟩]
    refine Eq.trans ?_ (hp r (y 1))
    refine congrArg p (funext fun a => Fin.ext ?_)
    fin_cases a
    · show (y 0).val - 32 * t.val = r.val
      omega
    · show (y 1).val - 0 = (y 1).val
      omega
  · rw [putRows_of_not_mem _ _ _ _ (by omega)]
    exact ho y u r (by omega) hy

include hB in
/-- One more block. -/
theorem after1_succ (t : Fin grid0.N) (ht : t.val < 8) (s : St Ideal) (h : After1 S T t.val s) :
    After1 S T (t.val + 1) (pass1 (grid0.coords t) (B t) s) := by
  have hb : blkNo t.val = t.val := if_pos ht
  have ls : ∀ r y, lb (B t).ss r y = Spec.label (S.s (px t.val r y)) := fun r y => congrArg Spec.label (funext fun k => hB.ss t ht k r y)
  have lt : ∀ r y, lb (B t).ts r y = Spec.label (T.s (px t.val r y)) := fun r y => congrArg Spec.label (funext fun k => hB.ts t ht k r y)
  have fs : ∀ c r y, (B t).sf (ix3 c r y) = S.f (px t.val r y) c := fun c r y => by rw [hB.sf, hb]
  have ft : ∀ c r y, (B t).tf (ix3 c r y) = T.f (px t.val r y) c := fun c r y => by rw [hB.tf, hb]
  refine ⟨fun k c => ?_, fun k => ?_, fun k => ?_, fun k => ?_, fun k => ?_, ?_, ?_, h.sd, h.td⟩
  · refine (numStep_apply (B t) s.num k c).trans ?_
    rw [Finset.sum_range_succ, h.num, bs_eq S (fun n => S.f n c * S.w n) k t.val _ _ ls (fun r y => by rw [fs, hB.sw t ht]),
      bs_eq T (fun n => T.f n c * T.w n) k t.val _ _ lt (fun r y => by rw [ft, hB.tw t ht])]
  · refine (aux0_apply (B t) s.aux k).trans ?_
    rw [Finset.sum_range_succ, h.aux0, bs_eq S S.w k t.val _ _ ls (hB.sw t ht)]
  · refine (aux1_apply (B t) s.aux k).trans ?_
    rw [Finset.sum_range_succ, h.aux1, bs_eq T T.w k t.val _ _ lt (hB.tw t ht)]
  · refine (aux2_apply (B t) s.aux k).trans ?_
    rw [Finset.sum_range_succ, h.aux2, bs_eq S (fun _ => 1) k t.val _ _ ls (fun _ _ => rfl)]
  · refine (aux3_apply (B t) s.aux k).trans ?_
    rw [Finset.sum_range_succ, h.aux3, bs_eq T (fun _ => 1) k t.val _ _ lt (fun _ _ => rfl)]
  · exact labels_put S t ht _ _ (fun r y => by rw [pay113_apply, labS_apply, ls]) h.slab
  · exact labels_put T t ht _ _ (fun r y => by rw [labT_apply, lt]) h.tlab

include hB in
/-- The scratch within the first pass. -/
theorem stAt_after1 (n : ℕ) (hn : n < 8) : After1 S T (n + 1) (stAt B s0 (n + 1)) := by
  induction n with
  | zero =>
    rw [stAt_succ B s0 ⟨0, by decide⟩, step_first ⟨0, by decide⟩ rfl]
    exact after1_succ B S T hB ⟨0, by decide⟩ (by decide) _ (after1_zero S T _)
  | succ n ih =>
    have hN : n + 1 < grid0.N := lt_trans hn (by decide)
    rw [stAt_succ B s0 ⟨n + 1, hN⟩, step_pass1 ⟨n + 1, hN⟩ (by simp) hn]
    exact after1_succ B S T hB ⟨n + 1, hN⟩ hn _ (ih (by omega))

/-! ## The second pass -/

/-- What the scratch holds after the second pass has done `m` blocks. -/
structure After2 (m : ℕ) (s : St Ideal) : Prop where
  aux0 : ∀ k, s.aux (ix2 k 0) = Spec.seg S S.w k
  aux1 : ∀ k, s.aux (ix2 k 1) = Spec.seg T T.w k
  aux2 : ∀ k, s.aux (ix2 k 2) = Spec.cnt S k
  aux3 : ∀ k, s.aux (ix2 k 3) = Spec.cnt T k
  slab : ∀ y : S256x256.Idx, ∀ u r, u < 8 → (y 0).val = 32 * u + r.val → s.slab y = Spec.label (S.s (px u r (y 1)))
  tlab : ∀ y : S256x256.Idx, ∀ u r, u < 8 → (y 0).val = 32 * u + r.val → s.tlab y = Spec.label (T.s (px u r (y 1)))
  cen : ∀ k c, s.cen (ix2 k c) = Spec.cen S T k c
  c2 : ∀ k, s.c2 (ix2 k 0) = ∑ c, Spec.cen S T k c * Spec.cen S T k c
  sd : ∀ k q, s.sd (ix2 k q) = ∑ u ∈ Finset.range m, segB S (fun n => Spec.dist (Spec.cen S T) (S.f n) k) q (7 - u)
  td : ∀ k q, s.td (ix2 k q) = ∑ u ∈ Finset.range m, segB T (fun n => Spec.dist (Spec.cen S T) (T.f n) k) q (7 - u)

/-- A column of the sums at a class. -/
theorem col_apply (q : Fin 4) (aux : Vec Ideal S19x4 .f32) (k : Fin 19) : col q aux (ix2 k 0) = aux (ix2 k q) := rfl

/-- The turn between the passes. -/
theorem after2_zero (s : St Ideal) (h : After1 S T 8 s) : After2 S T 0 (centred s) := by
  have e0 : ∀ k, s.aux (ix2 k 0) = Spec.seg S S.w k := fun k => (h.aux0 k).trans (seg_eq S S.w k)
  have e1 : ∀ k, s.aux (ix2 k 1) = Spec.seg T T.w k := fun k => (h.aux1 k).trans (seg_eq T T.w k)
  have en : ∀ k c, s.num (ix2 c k) = Spec.num S T k c := fun k c => by
    rw [h.num, Finset.sum_add_distrib, seg_eq, seg_eq]
    rfl
  have ec : ∀ k c, Ideal.div (s.num (ix2 c k)) (max (col 0 s.aux (ix2 k 0) + col 1 s.aux (ix2 k 0)) 1) = Spec.cen S T k c := fun k c => by
    rw [col_apply, col_apply, e0, e1, en]
    rfl
  exact ⟨e0, e1, fun k => (h.aux2 k).trans (seg_eq S (fun _ => 1) k), fun k => (h.aux3 k).trans (seg_eq T (fun _ => 1) k), h.slab, h.tlab,
    fun k c => (pay7_apply _ _ _ k c).trans (ec k c),
    fun k => (pay8_apply _ _ _ k).trans (Finset.sum_congr rfl fun c _ => by rw [ec]),
    fun k q => (h.sd k q).trans (Finset.sum_range_zero _).symm, fun k q => (h.td k q).trans (Finset.sum_range_zero _).symm⟩

/-- Reading a block's labels back. -/
theorem labels_get (D : Spec.Dom) (t : Fin grid0.N) (ht : 8 ≤ t.val) (h2 : inPass2 (grid0.coords t)) (x : Vec Ideal S256x256 .i32)
    (hx : ∀ y : S256x256.Idx, ∀ u r, u < 8 → (y 0).val = 32 * u + r.val → x y = Spec.label (D.s (px u r (y 1)))) (r : Fin 32) (y : Fin 256) :
    getRows (F := Ideal) (k0_off2 (grid0.coords t)) (k0_off2_inb (grid0.coords t) h2) x (ix2 r y) = Spec.label (D.s (px (15 - t.val) r y)) := by
  have e0 : k0_off2 (grid0.coords t) 0 = 32 * (15 - t.val) := congrFun (off2_eq t ht) 0
  have e1 : k0_off2 (grid0.coords t) 1 = 0 := congrFun (off2_eq t ht) 1
  unfold getRows
  refine (hx _ (15 - t.val) r (by have := t.isLt; omega) ?_).trans ?_
  · show k0_off2 (grid0.coords t) 0 + 1 * r.val = _
    omega
  · refine congrArg (fun z => Spec.label (D.s (px (15 - t.val) r z))) (Fin.ext ?_)
    show k0_off2 (grid0.coords t) 1 + 1 * y.val = y.val
    omega

include hB in
/-- One more block. -/
theorem after2_succ (m : ℕ) (t : Fin grid0.N) (ht : t.val = 8 + m) (h2 : inPass2 (grid0.coords t)) (s : St Ideal) (h : After2 S T m s) :
    After2 S T (m + 1) (pass2 (grid0.coords t) h2 (B t) s) := by
  have hm : m < 8 := by have : t.val < 16 := t.isLt; omega
  have hb : blkNo t.val = 7 - m := (if_neg (by omega)).trans (by omega)
  have fs : ∀ c r y, (B t).sf (ix3 c r y) = S.f (px (7 - m) r y) c := fun c r y => by rw [hB.sf, hb]
  have ft : ∀ c r y, (B t).tf (ix3 c r y) = T.f (px (7 - m) r y) c := fun c r y => by rw [hB.tf, hb]
  have hu : 15 - t.val = 7 - m := by omega
  refine ⟨h.aux0, h.aux1, h.aux2, h.aux3, h.slab, h.tlab, h.cen, h.c2, fun k q => ?_, fun k q => ?_⟩
  · refine (pay124_apply s.cen s.c2 s.sd (B t).sf _ _ h.cen h.c2 k q).trans ?_
    rw [Finset.sum_range_succ, h.sd, bs_eq S (fun n => Spec.dist (Spec.cen S T) (S.f n) k) q (7 - m)]
    · exact fun r y => (labels_get S t (by omega) h2 s.slab h.slab r y).trans (by rw [hu])
    · exact fun r y => congrArg (fun f => Spec.dist (Spec.cen S T) f k) (funext fun c => fs c r y)
  · refine (pay9_apply s.cen s.c2 s.td (B t).tf _ _ h.cen h.c2 k q).trans ?_
    rw [Finset.sum_range_succ, h.td, bs_eq T (fun n => Spec.dist (Spec.cen S T) (T.f n) k) q (7 - m)]
    · exact fun r y => (labels_get T t (by omega) h2 s.tlab h.tlab r y).trans (by rw [hu])
    · exact fun r y => congrArg (fun f => Spec.dist (Spec.cen S T) f k) (funext fun c => ft c r y)

include hB in
/-- The scratch within the second pass. -/
theorem stAt_after2 (m : ℕ) (hm : m < 8) : After2 S T (m + 1) (stAt B s0 (8 + m + 1)) := by
  induction m with
  | zero =>
    rw [show 8 + 0 + 1 = (⟨8, by decide⟩ : Fin grid0.N).val + 1 from rfl, stAt_succ B s0 ⟨8, by decide⟩, step_turn ⟨8, by decide⟩ rfl]
    exact after2_succ B S T hB 0 ⟨8, by decide⟩ rfl _ _ (after2_zero S T _ (stAt_after1 B S T hB s0 7 (by decide)))
  | succ m ih =>
    have hN : 8 + (m + 1) < grid0.N := lt_of_lt_of_le (by omega : 8 + (m + 1) < 16) (by decide)
    rw [stAt_succ B s0 ⟨8 + (m + 1), hN⟩, step_pass2 ⟨8 + (m + 1), hN⟩ (by simp)]
    exact after2_succ B S T hB (m + 1) ⟨8 + (m + 1), hN⟩ rfl _ _ (ih (by omega))

include hB in
/-- The loss the kernel ends with is the domains' loss. -/
theorem lossOf_eq : lossOf (stAt B s0 16) (ix2 0 0) = Spec.loss S T := by
  have h : After2 S T 8 (stAt B s0 16) := stAt_after2 B S T hB s0 7 (by decide)
  generalize stAt B s0 16 = s at h
  have hh : hasOf (col 0 s.aux) (col 1 s.aux) = Spec.has S T := funext fun k => by
    unfold hasOf
    rw [col_apply, col_apply, h.aux0, h.aux1]
    rfl
  have vs : validOf (col 0 s.aux) (col 1 s.aux) (col 2 s.aux) = Spec.valid S T S := funext fun k => by
    unfold validOf
    rw [hh, col_apply, h.aux2]
    rfl
  have vt : validOf (col 0 s.aux) (col 1 s.aux) (col 3 s.aux) = Spec.valid S T T := funext fun k => by
    unfold validOf
    rw [hh, col_apply, h.aux3]
    rfl
  have ms : meanOf s.sd (col 2 s.aux) = Spec.mean (Spec.cen S T) S := funext fun i => funext fun j => by
    unfold meanOf
    rw [col_apply, h.aux2, h.sd, seg_eq_down]
    rfl
  have mt : meanOf s.td (col 3 s.aux) = Spec.mean (Spec.cen S T) T := funext fun i => funext fun j => by
    unfold meanOf
    rw [col_apply, h.aux3, h.td, seg_eq_down]
    rfl
  rw [lossOf_apply, hh, vs, vt, ms, mt]
  rfl

end Cert.KernelIdeal.Pass
-- ==== Proof.KFeeds.lean ====
/- The blocks the kernel's grid points read are those of the domains the arguments hold. -/
module

public import proofs.«01_k».proof.Proof.KValue
public import proofs.«01_k».proof.Proof.KFrame
public import Idealize.ShloMosaic.Lib.Pipeline.ValueKit

@[expose] public section

set_option maxRecDepth 16384

noncomputable section

namespace Cert.KernelIdeal.Pass

open Idealize.ShloMosaic Idealize.ShloMosaic.TcCoe Cert.KernelIdeal.Gen Cert.KernelIdeal

/-! ## Which block of its array a window holds -/

/-- The feature windows go over the eight blocks up and down again. -/
theorem feat_index (t : Fin grid0.N) : (cfg0.win 0).index t = ![blkNo t.val / 4, blkNo t.val % 4, 0] ∧ (cfg0.win 1).index t = ![blkNo t.val / 4, blkNo t.val % 4, 0] :=
  (by decide +kernel : ∀ t : Fin grid0.N, (cfg0.win 0).index t = ![blkNo t.val / 4, blkNo t.val % 4, 0] ∧ (cfg0.win 1).index t = ![blkNo t.val / 4, blkNo t.val % 4, 0]) t

/-- The score and flag windows go over them in the first pass. -/
theorem lab_index (t : Fin grid0.N) (h : t.val < 8) : (cfg0.win 2).index t = ![t.val / 4, t.val % 4, 0] ∧ (cfg0.win 3).index t = ![t.val / 4, t.val % 4, 0]
    ∧ (cfg0.win 4).index t = ![t.val / 4, t.val % 4, 0] ∧ (cfg0.win 5).index t = ![t.val / 4, t.val % 4, 0] :=
  (by decide +kernel : ∀ t : Fin grid0.N, t.val < 8 → (cfg0.win 2).index t = ![t.val / 4, t.val % 4, 0] ∧ (cfg0.win 3).index t = ![t.val / 4, t.val % 4, 0]
    ∧ (cfg0.win 4).index t = ![t.val / 4, t.val % 4, 0] ∧ (cfg0.win 5).index t = ![t.val / 4, t.val % 4, 0]) t h

/-- There are eight blocks. -/
theorem blkNo_lt (t : Fin grid0.N) : blkNo t.val < 8 := by
  have : t.val < 16 := t.isLt
  unfold blkNo
  split_ifs <;> omega

variable (m : (ℓ : Loc nD τ sig) → Buf (Elt Ideal) ℓ) (d : Dev nD)

/-! ## What the windows' arrays hold -/

/-- The source features, images of the batch one after another. -/
theorem arr0 : V m d main_call0_v0 = shapeCast S512x128x256 (m (d.tc.loc main_arg0)) Facts₀.shapeCasts_S2x256x128x256_S512x128x256 := by
  show StableHlo.after hostOps0 (fun b => m (d, b)) (Proc.tc.devRef main_call0_v0) = _
  simp only [hostOps0, StableHlo.TRef.unary, StableHlo.TRef.reshape, StableHlo.TRef.toBuf, StableHlo.TRef.ofBuf, cast_eq]
  after_results_simp
  rfl
/-- The target features. -/
theorem arr1 : V m d main_call0_v1 = shapeCast S512x128x256 (m (d.tc.loc main_arg3)) Facts₀.shapeCasts_S2x256x128x256_S512x128x256 := by
  show StableHlo.after hostOps0 (fun b => m (d, b)) (Proc.tc.devRef main_call0_v1) = _
  simp only [hostOps0, StableHlo.TRef.unary, StableHlo.TRef.reshape, StableHlo.TRef.toBuf, StableHlo.TRef.ofBuf, cast_eq]
  after_results_simp
  rfl
/-- The source scores. -/
theorem arr2 : V m d main_call0_v2 = shapeCast S38x128x256 (m (d.tc.loc main_arg1)) Facts₀.shapeCasts_S2x19x128x256_S38x128x256 := by
  show StableHlo.after hostOps0 (fun b => m (d, b)) (Proc.tc.devRef main_call0_v2) = _
  simp only [hostOps0, StableHlo.TRef.unary, StableHlo.TRef.reshape, StableHlo.TRef.toBuf, StableHlo.TRef.ofBuf, cast_eq]
  after_results_simp
  rfl
/-- The target scores. -/
theorem arr3 : V m d main_call0_v3 = shapeCast S38x128x256 (m (d.tc.loc main_arg4)) Facts₀.shapeCasts_S2x19x128x256_S38x128x256 := by
  show StableHlo.after hostOps0 (fun b => m (d, b)) (Proc.tc.devRef main_call0_v3) = _
  simp only [hostOps0, StableHlo.TRef.unary, StableHlo.TRef.reshape, StableHlo.TRef.toBuf, StableHlo.TRef.ofBuf, cast_eq]
  after_results_simp
  rfl
/-- The source flags as words. -/
theorem arr4 : V m d main_call0_v4 = extui 32 (m (d.tc.loc main_arg2)) Facts₀.natLt_1_32 := by
  show StableHlo.after hostOps0 (fun b => m (d, b)) (Proc.tc.devRef main_call0_v4) = _
  simp only [hostOps0, StableHlo.TRef.unary, StableHlo.TRef.reshape, StableHlo.TRef.toBuf, StableHlo.TRef.ofBuf, cast_eq]
  after_results_simp
/-- The target flags as words. -/
theorem arr5 : V m d main_call0_v5 = extui 32 (m (d.tc.loc main_arg5)) Facts₀.natLt_1_32 := by
  show StableHlo.after hostOps0 (fun b => m (d, b)) (Proc.tc.devRef main_call0_v5) = _
  simp only [hostOps0, StableHlo.TRef.unary, StableHlo.TRef.reshape, StableHlo.TRef.toBuf, StableHlo.TRef.ofBuf, cast_eq]
  after_results_simp

/-! ## The cast arrays at an index -/

/-- Features: the class axis split off again. -/
theorem feat_cast (x : Vec Ideal S2x256x128x256 .f32) (b : Fin 8) (c : Fin 256) (r : Fin 32) (y : Fin 256) :
    shapeCast S512x128x256 x Facts₀.shapeCasts_S2x256x128x256_S512x128x256 (ix3 ⟨256 * (b.val / 4) + c.val, by omega⟩ ⟨32 * (b.val % 4) + r.val, by omega⟩ y)
      = x (ix4 ⟨(Spec.pix b r y).val / 32768, by omega⟩ c ⟨(Spec.pix b r y).val / 256 % 128, by omega⟩ ⟨(Spec.pix b r y).val % 256, by omega⟩) := by
  pointwise
  refine congrArg x ?_
  congr 1 <;> exact Fin.ext (by simp only [Spec.pix]; omega)

/-- Scores likewise. -/
theorem score_cast (x : Vec Ideal S2x19x128x256 .f32) (b : Fin 8) (k : Fin 19) (r : Fin 32) (y : Fin 256) :
    shapeCast S38x128x256 x Facts₀.shapeCasts_S2x19x128x256_S38x128x256 (ix3 ⟨19 * (b.val / 4) + k.val, by omega⟩ ⟨32 * (b.val % 4) + r.val, by omega⟩ y)
      = x (ix4 ⟨(Spec.pix b r y).val / 32768, by omega⟩ k ⟨(Spec.pix b r y).val / 256 % 128, by omega⟩ ⟨(Spec.pix b r y).val % 256, by omega⟩) := by
  pointwise
  refine congrArg x ?_
  congr 1 <;> exact Fin.ext (by simp only [Spec.pix]; omega)

/-- Flags likewise. -/
theorem flag_cast (x : Vec Ideal S2x128x256 .i1) (b : Fin 8) (r : Fin 32) (y : Fin 256) :
    IntOp.cmpi .ne (extui 32 x Facts₀.natLt_1_32 (ix3 ⟨b.val / 4, by omega⟩ ⟨32 * (b.val % 4) + r.val, by omega⟩ y)) 0#32
      = x (ix3 ⟨(Spec.pix b r y).val / 32768, by omega⟩ ⟨(Spec.pix b r y).val / 256 % 128, by omega⟩ ⟨(Spec.pix b r y).val % 256, by omega⟩) := by
  refine (Spec.cmpi_ne_widened (x (ix3 ⟨b.val / 4, by omega⟩ ⟨32 * (b.val % 4) + r.val, by omega⟩ y))).trans (congrArg x ?_)
  congr 1 <;> exact Fin.ext (by simp only [Spec.pix]; omega)

/-- The block a point reads, among the eight. -/
def blk8 (t : Fin grid0.N) : Fin 8 := ⟨blkNo t.val, blkNo_lt t⟩
/-- It is the block whose pixels `px` counts. -/
theorem px_blk (t : Fin grid0.N) (r : Fin 32) (y : Fin 256) : px (blkNo t.val) r y = Spec.pix (blk8 t) r y := by
  unfold px
  congr 1
  exact Fin.ext (Nat.mod_eq_of_lt (blkNo_lt t))

/-- In the first pass it is the point's own number. -/
theorem blkNo_of_lt (t : Fin grid0.N) (h : t.val < 8) : blkNo t.val = t.val := if_pos h

/-- The source domain of the arguments. -/
def srcDom : Spec.Dom := Spec.domOf (m (d.tc.loc main_arg0)) (m (d.tc.loc main_arg1)) (Spec.flagged (m (d.tc.loc main_arg2)))
/-- The target domain of the arguments. -/
def tgtDom : Spec.Dom := Spec.domOf (m (d.tc.loc main_arg3)) (m (d.tc.loc main_arg4)) (Spec.unflagged (m (d.tc.loc main_arg5)))

/-! ## The windows' blocks -/

/-- A source feature block holds its pixels' features. -/
theorem block0 (t : Fin grid0.N) (c : Fin 256) (r : Fin 32) (y : Fin 256) : iblk m d 0 t (ix3 c r y) = (srcDom m d).f (px (blkNo t.val) r y) c := by
  have h := (feat_index t).1
  have e : iblk m d 0 t (ix3 c r y) = V m d main_call0_v0 (ix3 ⟨256 * ((blk8 t).val / 4) + c.val, by omega⟩ ⟨32 * ((blk8 t).val % 4) + r.val, by omega⟩ y) := by
    unfold iblk
    blk_ext [h, blk8]
  rw [e, arr0, px_blk]
  exact feat_cast _ (blk8 t) c r y
/-- A target feature block holds its pixels' features. -/
theorem block1 (t : Fin grid0.N) (c : Fin 256) (r : Fin 32) (y : Fin 256) : iblk m d 1 t (ix3 c r y) = (tgtDom m d).f (px (blkNo t.val) r y) c := by
  have h := (feat_index t).2
  have e : iblk m d 1 t (ix3 c r y) = V m d main_call0_v1 (ix3 ⟨256 * ((blk8 t).val / 4) + c.val, by omega⟩ ⟨32 * ((blk8 t).val % 4) + r.val, by omega⟩ y) := by
    unfold iblk
    blk_ext [h, blk8]
  rw [e, arr1, px_blk]
  exact feat_cast _ (blk8 t) c r y
/-- In the first pass a source score block holds its pixels' scores. -/
theorem block2 (t : Fin grid0.N) (ht : t.val < 8) (k : Fin 19) (r : Fin 32) (y : Fin 256) : iblk m d 2 t (ix3 k r y) = (srcDom m d).s (px t.val r y) k := by
  have h := (lab_index t ht).1
  have e : iblk m d 2 t (ix3 k r y) = V m d main_call0_v2 (ix3 ⟨19 * ((blk8 t).val / 4) + k.val, by omega⟩ ⟨32 * ((blk8 t).val % 4) + r.val, by omega⟩ y) := by
    unfold iblk
    blk_ext [h, blk8, blkNo_of_lt t ht]
  rw [e, arr2, ← blkNo_of_lt t ht, px_blk]
  exact score_cast _ (blk8 t) k r y
/-- In the first pass a target score block holds its pixels' scores. -/
theorem block3 (t : Fin grid0.N) (ht : t.val < 8) (k : Fin 19) (r : Fin 32) (y : Fin 256) : iblk m d 3 t (ix3 k r y) = (tgtDom m d).s (px t.val r y) k := by
  have h := (lab_index t ht).2.1
  have e : iblk m d 3 t (ix3 k r y) = V m d main_call0_v3 (ix3 ⟨19 * ((blk8 t).val / 4) + k.val, by omega⟩ ⟨32 * ((blk8 t).val % 4) + r.val, by omega⟩ y) := by
    unfold iblk
    blk_ext [h, blk8, blkNo_of_lt t ht]
  rw [e, arr3, ← blkNo_of_lt t ht, px_blk]
  exact score_cast _ (blk8 t) k r y
/-- In the first pass a source flag block gives its pixels' weights. -/
theorem block4 (t : Fin grid0.N) (ht : t.val < 8) (r : Fin 32) (y : Fin 256) : ws (iblk m d 4 t) r y = (srcDom m d).w (px t.val r y) := by
  have h := (lab_index t ht).2.2.1
  have e : iblk m d 4 t (ix3 0 r y) = V m d main_call0_v4 (ix3 ⟨(blk8 t).val / 4, by omega⟩ ⟨32 * ((blk8 t).val % 4) + r.val, by omega⟩ y) := by
    unfold iblk
    blk_ext [h, blk8, blkNo_of_lt t ht]
  unfold ws
  rw [e, arr4, flag_cast _ (blk8 t) r y, Spec.sitofp_bit, ← blkNo_of_lt t ht, px_blk]
  rfl
/-- In the first pass one less a target flag block gives its pixels' weights. -/
theorem block5 (t : Fin grid0.N) (ht : t.val < 8) (r : Fin 32) (y : Fin 256) : 1 - ws (iblk m d 5 t) r y = (tgtDom m d).w (px t.val r y) := by
  have h := (lab_index t ht).2.2.2
  have e : iblk m d 5 t (ix3 0 r y) = V m d main_call0_v5 (ix3 ⟨(blk8 t).val / 4, by omega⟩ ⟨32 * ((blk8 t).val % 4) + r.val, by omega⟩ y) := by
    unfold iblk
    blk_ext [h, blk8, blkNo_of_lt t ht]
  unfold ws
  rw [e, arr5, flag_cast _ (blk8 t) r y, Spec.sitofp_bit, ← blkNo_of_lt t ht, px_blk]
  rfl

/-- The grid points read the arguments' domains. -/
theorem feeds : Feeds (blkAt m d) (srcDom m d) (tgtDom m d) where
  sf := block0 m d
  tf := block1 m d
  ss := block2 m d
  ts := block3 m d
  sw := block4 m d
  tw := block5 m d

/-- The loss block holds the loss of the arguments' domains. -/
theorem lossAt_eq : lossAt m d = fun _ => Spec.loss (srcDom m d) (tgtDom m d) := by
  funext j
  have e : j = ix2 0 0 := by
    funext a
    match a with
    | ⟨0, _⟩ => exact Subsingleton.elim (α := Fin 1) _ _
    | ⟨1, _⟩ => exact Subsingleton.elim (α := Fin 1) _ _
  rw [e]
  exact lossOf_eq _ _ _ (feeds m d) _

/-! ## The run's result -/

/-- The result array once the grid is through. -/
theorem out6 : (dats m 0 d).arrAt 6 (cfgs 0).N = fun _ => Spec.loss (srcDom m d) (tgtDom m d) := by
  refine (dats m 0 d).arrAt_eq_of_covers 6 _ (by decide +kernel) fun t hf y => ?_
  rw [left6, lossAt_eq]
  rfl

/-- The loss goes from the grid's result to the program's unchanged. -/
theorem tail_eq : Pipeline.afterTail₀ cfgs (dats m) 0 (V0 m) [hostOps1] d main_v0 = fun _ => Spec.loss (srcDom m d) (tgtDom m d) := by
  show StableHlo.after [hostOps1].flatten _ (Proc.tc.devRef main_v0) = _
  simp only [hostOps1, List.flatten_cons, List.flatten_nil, List.append_nil, List.cons_append,
     StableHlo.TRef.unary, StableHlo.TRef.reshape, StableHlo.TRef.toBuf, StableHlo.TRef.ofBuf, cast_eq]
  after_results_simp
  rw [show Pipeline.withArrays (cfgs 0).spec d (V0 m d) (fun w => (dats m 0 d).arrAt w (cfgs 0).N) (Proc.tc.devRef main_call0_v6)
      = fun _ => Spec.loss (srcDom m d) (tgtDom m d) from (Pipeline.withArrays_arr (cfgs 0).spec winFacts0.arr_inj d _ _ 6).trans (out6 m d)]
  rfl

/-- The kernel's program ends with the loss as its result and its arguments as they were. -/
theorem value (ρ : Dev nD → PrngReg) : θ_run (defs (F := Ideal)) (onTc (τ := τ) (main (F := Ideal))) ⟨m, fun _ => 0, ρ⟩ (fun r => ∀ c : Dev nD,
      r.2.mem ((c.tc : Thread nD τ).loc main_v0) = (fun _ => Spec.loss (srcDom m c) (tgtDom m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine θ_run_mono (θ_run_and (launch m ρ) (frame m ρ)) fun r h c => ⟨?_, h.2.1 c⟩
  exact ((h.1.1 c).2 main_v0 (Pipeline.mem_restRefs_of main_v0 (by decide) (by decide))).trans (tail_eq m c)

end Cert.KernelIdeal.Pass
-- ==== Proof.RScat.lean ====
/- The reference's scatters are sums over the pixels of a label, its gather reads a diagonal, its label is the first class of
   greatest score. -/
module

public import proofs.«01_k».proof.Proof.Bits
public import proofs.«01_k».proof.Proof.RRun
public import Idealize.ShloMosaic.Lib.Pointwise
public import Idealize.ShloMosaic.Lib.Routing.OpsPair

@[expose] public section

set_option maxRecDepth 16384

noncomputable section

namespace Cert.ReferenceIdeal.Line

open Idealize.ShloMosaic Idealize.ShloMosaic.TcCoe Cert.ReferenceIdeal.Gen Cert.ReferenceIdeal

/-! ## Where an update lands -/

/-- A scatter of numbers into a vector: update `n` starts at its index word. -/
theorem vec_start (idx : IVec S65536x1 32) (n : Fin 65536) : scatter_S19_S65536x1_S65536_n_0_0_1.start (ix1 n) idx 0 = (idx (ix2 n 0)).toInt := by
  unfold ScatterDims.start
  rw [dif_pos (by decide)]
  refine congrArg (fun i => (idx i).toInt) (funext fun b => ?_)
  match b with
  | ⟨0, _⟩ => rfl
  | ⟨1, _⟩ => rfl
/-- A vector update is one entry, with no place of its own. -/
theorem vec_window (n : Fin 65536) : scatter_S19_S65536x1_S65536_n_0_0_1.window (ix1 n) 0 = 0 := rfl

/-- A scatter of rows into a table: row `n` starts at its index word. -/
theorem tab_start (idx : IVec S65536x1 32) (n : Fin 65536) (c : Fin 256) : scatter_S19x256_S65536x1_S65536x256_1_0_0_1.start (ix2 n c) idx 0 = (idx (ix2 n 0)).toInt := by
  unfold ScatterDims.start
  rw [dif_pos (by decide)]
  refine congrArg (fun i => (idx i).toInt) (funext fun b => ?_)
  match b with
  | ⟨0, _⟩ => rfl
  | ⟨1, _⟩ => rfl
/-- The word says nothing of a table's column. -/
theorem tab_start' (idx : IVec S65536x1 32) (n : Fin 65536) (c : Fin 256) : scatter_S19x256_S65536x1_S65536x256_1_0_0_1.start (ix2 n c) idx 1 = 0 := rfl
/-- A table update is one row, with no place along the classes. -/
theorem tab_window (n : Fin 65536) (c : Fin 256) : scatter_S19x256_S65536x1_S65536x256_1_0_0_1.window (ix2 n c) 0 = 0 := rfl
/-- Its place along the columns is its column. -/
theorem tab_window' (n : Fin 65536) (c : Fin 256) : scatter_S19x256_S65536x1_S65536x256_1_0_0_1.window (ix2 n c) 1 = c.val := rfl

/-- The same into the class-by-class table. -/
theorem sq_start (idx : IVec S65536x1 32) (n : Fin 65536) (c : Fin 19) : scatter_S19x19_S65536x1_S65536x19_1_0_0_1.start (ix2 n c) idx 0 = (idx (ix2 n 0)).toInt := by
  unfold ScatterDims.start
  rw [dif_pos (by decide)]
  refine congrArg (fun i => (idx i).toInt) (funext fun b => ?_)
  match b with
  | ⟨0, _⟩ => rfl
  | ⟨1, _⟩ => rfl
/-- The word says nothing of a square table's column. -/
theorem sq_start' (idx : IVec S65536x1 32) (n : Fin 65536) (c : Fin 19) : scatter_S19x19_S65536x1_S65536x19_1_0_0_1.start (ix2 n c) idx 1 = 0 := rfl
/-- A square table's update is one row, with no place along the classes. -/
theorem sq_window (n : Fin 65536) (c : Fin 19) : scatter_S19x19_S65536x1_S65536x19_1_0_0_1.window (ix2 n c) 0 = 0 := rfl
/-- Its place along the columns is its column. -/
theorem sq_window' (n : Fin 65536) (c : Fin 19) : scatter_S19x19_S65536x1_S65536x19_1_0_0_1.window (ix2 n c) 1 = c.val := rfl

/-- A word is a class's number, signed, exactly when it is that number's word. -/
theorem toInt_eq_class (w : BitVec 32) (k : Fin 19) : w.toInt = (k.val : Int) ↔ BitVec.ofNat 32 k.val = w := by
  constructor
  · intro h
    apply BitVec.eq_of_toInt_eq
    rw [h]
    exact (by decide : ∀ k : Fin 19, (BitVec.ofNat 32 k.val).toInt = (k.val : Int)) k
  · rintro rfl
    exact (by decide : ∀ k : Fin 19, (BitVec.ofNat 32 k.val).toInt = (k.val : Int)) k

/-- Where a vector update lands. -/
theorem vec_lands (idx : IVec S65536x1 32) (n : Fin 65536) (k : Fin 19) :
    scatter_S19_S65536x1_S65536_n_0_0_1.resultIdx? (ix1 n) idx = some (ix1 k) ↔ BitVec.ofNat 32 k.val = idx (ix2 n 0) := by
  rw [← toInt_eq_class, Routing.resultIdx?_eq_some]
  constructor
  · intro h
    have := h 0
    rw [vec_start, vec_window] at this
    simpa using this
  · intro h a
    match a with
    | ⟨0, _⟩ =>
      show scatter_S19_S65536x1_S65536_n_0_0_1.start (ix1 n) idx 0 + (scatter_S19_S65536x1_S65536_n_0_0_1.window (ix1 n) 0 : Int) = (k.val : Int)
      rw [vec_start, vec_window, h]
      simp

/-- Where a table update lands. -/
theorem tab_lands (idx : IVec S65536x1 32) (n : Fin 65536) (c c' : Fin 256) (k : Fin 19) :
    scatter_S19x256_S65536x1_S65536x256_1_0_0_1.resultIdx? (ix2 n c') idx = some (ix2 k c) ↔ BitVec.ofNat 32 k.val = idx (ix2 n 0) ∧ c' = c := by
  rw [← toInt_eq_class, Routing.resultIdx?_eq_some, Fin.ext_iff]
  constructor
  · intro h
    have h0 := h 0
    have h1 := h 1
    rw [tab_start, tab_window] at h0
    rw [tab_start', tab_window'] at h1
    exact ⟨by simpa using h0, by simpa using h1⟩
  · intro h a
    match a with
    | ⟨0, _⟩ =>
      show scatter_S19x256_S65536x1_S65536x256_1_0_0_1.start (ix2 n c') idx 0 + (scatter_S19x256_S65536x1_S65536x256_1_0_0_1.window (ix2 n c') 0 : Int) = (k.val : Int)
      rw [tab_start, tab_window, h.1]
      simp
    | ⟨1, _⟩ =>
      show scatter_S19x256_S65536x1_S65536x256_1_0_0_1.start (ix2 n c') idx 1 + (scatter_S19x256_S65536x1_S65536x256_1_0_0_1.window (ix2 n c') 1 : Int) = (c.val : Int)
      rw [tab_start', tab_window', h.2]
      simp

/-- Where a square table's update lands. -/
theorem sq_lands (idx : IVec S65536x1 32) (n : Fin 65536) (c c' : Fin 19) (k : Fin 19) :
    scatter_S19x19_S65536x1_S65536x19_1_0_0_1.resultIdx? (ix2 n c') idx = some (ix2 k c) ↔ BitVec.ofNat 32 k.val = idx (ix2 n 0) ∧ c' = c := by
  rw [← toInt_eq_class, Routing.resultIdx?_eq_some, Fin.ext_iff]
  constructor
  · intro h
    have h0 := h 0
    have h1 := h 1
    rw [sq_start, sq_window] at h0
    rw [sq_start', sq_window'] at h1
    exact ⟨by simpa using h0, by simpa using h1⟩
  · intro h a
    match a with
    | ⟨0, _⟩ =>
      show scatter_S19x19_S65536x1_S65536x19_1_0_0_1.start (ix2 n c') idx 0 + (scatter_S19x19_S65536x1_S65536x19_1_0_0_1.window (ix2 n c') 0 : Int) = (k.val : Int)
      rw [sq_start, sq_window, h.1]
      simp
    | ⟨1, _⟩ =>
      show scatter_S19x19_S65536x1_S65536x19_1_0_0_1.start (ix2 n c') idx 1 + (scatter_S19x19_S65536x1_S65536x19_1_0_0_1.window (ix2 n c') 1 : Int) = (c.val : Int)
      rw [sq_start', sq_window', h.2]
      simp

/-! ## What a scatter adds up -/

/-- A vector's entry gets the updates of its label. -/
theorem vec_sum (x : S19.Idx → EReal) (idx : IVec S65536x1 32) (u : S65536.Idx → EReal) (k : Fin 19) :
    Host.scatterAdd (F := Ideal) (φ := .f32) scatter_S19_S65536x1_S65536_n_0_0_1 x idx u (ix1 k) = x (ix1 k) + ∑ n, if BitVec.ofNat 32 k.val = idx (ix2 n 0) then u (ix1 n) else 0 := by
  show x (ix1 k) + ∑ j ∈ Finset.univ.filter (fun j => scatter_S19_S65536x1_S65536_n_0_0_1.resultIdx? j idx = some (ix1 k)), u j = _
  rw [Finset.sum_filter, sum_idx1]
  simp only [vec_lands]

/-- A table's entry gets those of its label and column. -/
theorem tab_sum (x : S19x256.Idx → EReal) (idx : IVec S65536x1 32) (u : S65536x256.Idx → EReal) (k : Fin 19) (c : Fin 256) :
    Host.scatterAdd (F := Ideal) (φ := .f32) scatter_S19x256_S65536x1_S65536x256_1_0_0_1 x idx u (ix2 k c) = x (ix2 k c) + ∑ n, if BitVec.ofNat 32 k.val = idx (ix2 n 0) then u (ix2 n c) else 0 := by
  show x (ix2 k c) + ∑ j ∈ Finset.univ.filter (fun j => scatter_S19x256_S65536x1_S65536x256_1_0_0_1.resultIdx? j idx = some (ix2 k c)), u j = _
  rw [Finset.sum_filter, sum_idx2]
  simp only [tab_lands, ite_and]
  refine congrArg (x (ix2 k c) + ·) (Finset.sum_congr rfl fun n _ => ?_)
  split_ifs
  · simp
  · simp

/-- The same of the class-by-class table. -/
theorem sq_sum (x : S19x19.Idx → EReal) (idx : IVec S65536x1 32) (u : S65536x19.Idx → EReal) (k c : Fin 19) :
    Host.scatterAdd (F := Ideal) (φ := .f32) scatter_S19x19_S65536x1_S65536x19_1_0_0_1 x idx u (ix2 k c) = x (ix2 k c) + ∑ n, if BitVec.ofNat 32 k.val = idx (ix2 n 0) then u (ix2 n c) else 0 := by
  show x (ix2 k c) + ∑ j ∈ Finset.univ.filter (fun j => scatter_S19x19_S65536x1_S65536x19_1_0_0_1.resultIdx? j idx = some (ix2 k c)), u j = _
  rw [Finset.sum_filter, sum_idx2]
  simp only [sq_lands, ite_and]
  refine congrArg (x (ix2 k c) + ·) (Finset.sum_congr rfl fun n _ => ?_)
  split_ifs
  · simp
  · simp

/-! ## The gather -/

/-- A gather at the index pairs `(i, i)` reads the diagonal. -/
theorem diag_read (M : S19x19.Idx → EReal) (idx : IVec S19x2 32) (i : Fin 19) (h0 : idx (ix2 i 0) = BitVec.ofNat 32 i.val) (h1 : idx (ix2 i 1) = BitVec.ofNat 32 i.val) :
    Host.gather gather_S19x19_S19x2_S19_n_01_n_n_01_1_11 M idx (ix1 i) = M (ix2 i i) := by
  have hv : min (BitVec.ofNat 32 i.val).toInt.toNat 18 = i.val := (by decide : ∀ i : Fin 19, min (BitVec.ofNat 32 i.val).toInt.toNat 18 = i.val) i
  have s0 : gather_S19x19_S19x2_S19_n_01_n_n_01_1_11.start (ix1 i) idx 0 = i.val := by
    unfold GatherDims.start
    rw [dif_pos (by decide), ← hv, ← h0]
    refine congrArg (fun j => min (idx j).toInt.toNat 18) (funext fun b => ?_)
    match b with
    | ⟨0, _⟩ => rfl
    | ⟨1, _⟩ => rfl
  have s1 : gather_S19x19_S19x2_S19_n_01_n_n_01_1_11.start (ix1 i) idx 1 = i.val := by
    unfold GatherDims.start
    rw [dif_pos (by decide), ← hv, ← h1]
    refine congrArg (fun j => min (idx j).toInt.toNat 18) (funext fun b => ?_)
    match b with
    | ⟨0, _⟩ => rfl
    | ⟨1, _⟩ => rfl
  refine congrArg M (funext fun a => Fin.ext ?_)
  match a with
  | ⟨0, _⟩ => exact s0
  | ⟨1, _⟩ => exact s1

/-! ## The label -/

/-- One pair of score and class is at least as good as another: a greater score, or the same one and no later class. -/
def Beats (p q : EReal × BitVec 32) : Prop := q.1 < p.1 ∨ p.1 = q.1 ∧ p.2.toInt ≤ q.2.toInt

/-- A pair beats itself. -/
theorem beats_refl (p : EReal × BitVec 32) : Beats p p := Or.inr ⟨rfl, le_refl _⟩

/-- Beating is transitive. -/
theorem beats_trans {p q r : EReal × BitVec 32} (h : Beats p q) (k : Beats q r) : Beats p r := by
  unfold Beats at *
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- Two pairs that beat each other are equal. -/
theorem beats_antisymm {p q : EReal × BitVec 32} (h : Beats p q) (k : Beats q p) : p = q := by
  unfold Beats at *
  rcases h with h | ⟨h, h'⟩ <;> rcases k with k | ⟨k, k'⟩
  · exact absurd (h.trans k) (lt_irrefl _)
  · exact absurd h (k ▸ lt_irrefl _)
  · exact absurd k (h ▸ lt_irrefl _)
  · exact Prod.ext h (BitVec.eq_of_toInt_eq (le_antisymm h' k'))

/-- The reducer takes the better of two. -/
theorem reducer_better (p q : EReal × BitVec 32) :
    reducer_argmax_f32_i32 (F := Ideal) p q = p ∧ Beats p q ∨ reducer_argmax_f32_i32 (F := Ideal) p q = q ∧ Beats q p := by
  obtain ⟨x, i⟩ := p
  obtain ⟨y, j⟩ := q
  unfold reducer_argmax_f32_i32 Beats
  simp only [Ideal.cmpf_def, Ideal.cmp]
  rcases lt_trichotomy x y with h | h | h
  · right
    have h1 : ¬ y < x := not_lt.2 h.le
    have h2 : x ≠ y := h.ne
    simp [h1, h2, h, IntOp.ori, IntOp.andi, Scalar.select]
  · subst h
    by_cases c : i.toInt < j.toInt
    · left
      simp [IntOp.cmpi, BitVec.slt, c, IntOp.ori, IntOp.andi, Scalar.select, c.le]
    · right
      simp [IntOp.cmpi, BitVec.slt, c, IntOp.ori, IntOp.andi, Scalar.select, not_lt.1 c]
  · left
    have h2 : x ≠ y := h.ne'
    simp [h2, h, IntOp.ori, IntOp.andi, Scalar.select]

/-- Folding it over a list gives a best pair of the list. -/
theorem fold_best (l : List (EReal × BitVec 32)) (p : EReal × BitVec 32) :
    l.foldl (reducer_argmax_f32_i32 (F := Ideal)) p ∈ p :: l ∧ ∀ q ∈ p :: l, Beats (l.foldl (reducer_argmax_f32_i32 (F := Ideal)) p) q := by
  induction l generalizing p with
  | nil => exact ⟨by simp, fun q hq => by rw [List.mem_singleton.1 hq]; exact beats_refl p⟩
  | cons a l ih =>
    rw [List.foldl_cons]
    obtain ⟨hm, hb⟩ := ih (reducer_argmax_f32_i32 (F := Ideal) p a)
    have hr := hb _ List.mem_cons_self
    rcases reducer_better p a with ⟨e, he⟩ | ⟨e, he⟩ <;> rw [e] at hm hb hr ⊢
    · refine ⟨?_, fun q hq => ?_⟩
      · rcases List.mem_cons.1 hm with h | h
        · rw [h]; exact List.mem_cons_self
        · exact List.mem_cons_of_mem _ (List.mem_cons_of_mem _ h)
      · rcases List.mem_cons.1 hq with h | h
        · rw [h]; exact hr
        rcases List.mem_cons.1 h with h | h
        · rw [h]; exact beats_trans hr he
        · exact hb q (List.mem_cons_of_mem _ h)
    · refine ⟨List.mem_cons_of_mem _ hm, fun q hq => ?_⟩
      rcases List.mem_cons.1 hq with h | h
      · rw [h]; exact beats_trans hr he
      · exact hb q h

/-- The chain of strict comparisons ends at a best pair too. -/
theorem chain_best (x : Fin 19 → EReal) (k : ℕ) (hk : k < 19) :
    (∃ j : Fin 19, Spec.chain x k = (x j, BitVec.ofNat 32 j.val) ∧ j.val ≤ k) ∧ ∀ j : Fin 19, j.val ≤ k → Beats (Spec.chain x k) (x j, BitVec.ofNat 32 j.val) := by
  have hv : ∀ j : Fin 19, (BitVec.ofNat 32 j.val).toInt = (j.val : Int) := by decide
  induction k with
  | zero =>
    refine ⟨⟨0, rfl, le_refl _⟩, fun j hj => ?_⟩
    obtain rfl : j = 0 := Fin.ext (by simpa using hj)
    exact beats_refl _
  | succ k ih =>
    obtain ⟨⟨i, hi, hik⟩, hb⟩ := ih (by omega)
    have hn : (Fin.ofNat 19 (k + 1)).val = k + 1 := Nat.mod_eq_of_lt hk
    rw [Spec.chain]
    split_ifs with h
    · refine ⟨⟨Fin.ofNat 19 (k + 1), by rw [hn], by rw [hn]⟩, fun j hj => ?_⟩
      by_cases e : j.val = k + 1
      · obtain rfl : j = Fin.ofNat 19 (k + 1) := Fin.ext (e.trans hn.symm)
        rw [hn]
        exact beats_refl _
      · exact beats_trans (Or.inl h) (hb j (by omega))
    · refine ⟨⟨i, hi, by omega⟩, fun j hj => ?_⟩
      by_cases e : j.val = k + 1
      · obtain rfl : j = Fin.ofNat 19 (k + 1) := Fin.ext (e.trans hn.symm)
        rw [hi] at h ⊢
        rcases (not_lt.1 h).lt_or_eq with h' | h'
        · exact Or.inl h'
        · refine Or.inr ⟨h'.symm, ?_⟩
          show (BitVec.ofNat 32 i.val).toInt ≤ (BitVec.ofNat 32 (Fin.ofNat 19 (k + 1)).val).toInt
          rw [hv, hv, hn]
          omega
      · exact hb j (by omega)

/-- The reference's label of a pixel is the first class of greatest score. -/
theorem label_read (x : S2x19x128x256.Idx → EReal) (b : Fin 2) (r : Fin 128) (y : Fin 256) :
    (Host.argReduce (F := Ideal) (φ := .f32) reducer_argmax_f32_i32 x (iotaInDim S2x19x128x256 32 1) (constant S_ .f32 0xFF800000#32) (constantI S_ 32 0#32)
        reducesTo_S2x19x128x256_S2x128x256_d1 h_S_ (ix3 b r y)).2
      = Spec.label fun k => x (ix4 b k r y) := by
  rw [Ideal.argReduce_eq_reduce2, Host.reduce2_eq_foldl_fiber]
  obtain ⟨hm, hb⟩ := fold_best (Host.argReduceFiber x (iotaInDim S2x19x128x256 32 1) reducesTo_S2x19x128x256_S2x128x256_d1 (ix3 b r y)) (⊥, 0#32)
  have hmem : ∀ p, p ∈ Host.argReduceFiber x (iotaInDim S2x19x128x256 32 1) reducesTo_S2x19x128x256_S2x128x256_d1 (ix3 b r y)
      ↔ ∃ k : Fin 19, p = (x (ix4 b k r y), BitVec.ofNat 32 k.val) := fun p => by
    unfold Host.argReduceFiber
    rw [List.mem_map]
    constructor
    · rintro ⟨n, hn, rfl⟩
      have h := of_decide_eq_true (List.mem_filter.1 hn).2
      obtain ⟨k, hk⟩ := (Shape.ReducesTo.fiber_r4_a1 reducesTo_S2x19x128x256_S2x128x256_d1 (ix3 b r y) _).1 h
      refine ⟨k, ?_⟩
      rw [← hk]
      rfl
    · rintro ⟨k, rfl⟩
      refine ⟨S2x19x128x256.rowMajor (ix4 b k r y), List.mem_filter.2 ⟨List.mem_finRange _, decide_eq_true ?_⟩, ?_⟩
      · rw [Equiv.symm_apply_apply]
        exact (Shape.ReducesTo.fiber_r4_a1 reducesTo_S2x19x128x256_S2x128x256_d1 (ix3 b r y) _).2 ⟨k, rfl⟩
      · rw [Equiv.symm_apply_apply]
        rfl
  obtain ⟨⟨j, hj, _⟩, hc⟩ := chain_best (fun k => x (ix4 b k r y)) 18 (by omega)
  have hstart : Beats (Spec.chain (fun k => x (ix4 b k r y)) 18) (⊥, 0#32) := by
    refine beats_trans (hc 0 (by simp)) ?_
    rcases (bot_le (a := x (ix4 b 0 r y))).lt_or_eq with h | h
    · exact Or.inl h
    · exact Or.inr ⟨h.symm, le_refl _⟩
  have e : (Host.argReduceFiber x (iotaInDim S2x19x128x256 32 1) reducesTo_S2x19x128x256_S2x128x256_d1 (ix3 b r y)).foldl
      (reducer_argmax_f32_i32 (F := Ideal)) (⊥, 0#32) = Spec.chain (fun k => x (ix4 b k r y)) 18 := by
    refine beats_antisymm ?_ ?_
    · refine hb _ (List.mem_cons_of_mem _ ((hmem _).2 ⟨j, hj⟩))
    · rcases List.mem_cons.1 hm with h | h
      · rw [h]; exact hstart
      · obtain ⟨k, hk⟩ := (hmem _).1 h
        rw [hk]
        exact hc k (by omega)
  unfold Spec.label
  rw [← e]
  refine congrArg (fun z => Prod.snd (List.foldl (reducer_argmax_f32_i32 (F := Ideal)) z (Host.argReduceFiber x (iotaInDim S2x19x128x256 32 1) reducesTo_S2x19x128x256_S2x128x256_d1 (ix3 b r y)))) ?_
  exact Prod.ext Spec.ofBits_neg_inf rfl

end Cert.ReferenceIdeal.Line
-- ==== Proof.RArr.lean ====
/- The array functions the reference's stages compute, and what they are at an index. -/
module

public import proofs.«01_k».proof.Proof.RScat

@[expose] public section

set_option maxRecDepth 16384

noncomputable section

namespace Cert.ReferenceIdeal.Line

open Idealize.ShloMosaic Idealize.ShloMosaic.TcCoe Cert.ReferenceIdeal.Gen Cert.ReferenceIdeal

/-! ## The functions -/

/-- Feature images as rows, one per pixel. -/
def rowsArr (f : FVec Ideal S2x256x128x256 .f32) : FVec Ideal S65536x256 .f32 :=
  shapeCast S65536x256 (transpose S2x128x256x256 [0, 2, 3, 1] f transposes_S2x256x128x256_S2x128x256x256_0_2_3_1) shapeCasts_S2x128x256x256_S65536x256
/-- The pixels' labels. -/
def labArr (s : FVec Ideal S2x19x128x256 .f32) : IVec S65536 32 :=
  shapeCast S65536 (fun j => (Host.argReduce reducer_argmax_f32_i32 s (iotaInDim S2x19x128x256 32 1) (constant S_ .f32 0xFF800000#32) (constantI S_ 32 0#32)
    reducesTo_S2x19x128x256_S2x128x256_d1 h_S_ j).2) shapeCasts_S2x128x256_S65536
/-- The flags as numbers. -/
def flagArr (c : IVec S2x128x256 1) : FVec Ideal S65536 .f32 := uitofp .f32 (shapeCast S65536 c shapeCasts_S2x128x256_S65536)
/-- One less the flags. -/
def unflagArr (c : IVec S2x128x256 1) : FVec Ideal S65536 .f32 := subf (broadcastInDim S65536 ![] bcast_S_S65536 (constant S_ .f32 0x3F800000#32)) (flagArr c)
/-- Labels as a column. -/
def labCol (l : IVec S65536 32) : IVec S65536x1 32 := broadcastInDim S65536x1 ![0] bcast_S65536_S65536x1_0 l
/-- A class's sum of numbers. -/
def vecArr (l : IVec S65536 32) (u : FVec Ideal S65536 .f32) : FVec Ideal S19 .f32 :=
  Host.scatterAdd scatter_S19_S65536x1_S65536_n_0_0_1 (broadcastInDim S19 ![] bcast_S_S19 (constant S_ .f32 0x00000000#32)) (labCol l) u
/-- A class's weighted sum of feature rows. -/
def tabArr (l : IVec S65536 32) (x : FVec Ideal S65536x256 .f32) (w : FVec Ideal S65536 .f32) : FVec Ideal S19x256 .f32 :=
  Host.scatterAdd scatter_S19x256_S65536x1_S65536x256_1_0_0_1 (broadcastInDim S19x256 ![] bcast_S_S19x256 (constant S_ .f32 0x00000000#32)) (labCol l)
    (mulf x (broadcastInDim S65536x256 ![0, 1] bcast_S65536x1_S65536x256_0_1 (broadcastInDim S65536x1 ![0] bcast_S65536_S65536x1_0 w)))
/-- Centroids of sums and weights. -/
def cenArr (n : FVec Ideal S19x256 .f32) (d : FVec Ideal S19 .f32) : FVec Ideal S19x256 .f32 :=
  Host.divf n (broadcastInDim S19x256 ![0, 1] bcast_S19x1_S19x256_0_1 (broadcastInDim S19x1 ![0] bcast_S19_S19x1_0
    (maximumf d (broadcastInDim S19 ![] bcast_S_S19 (constant S_ .f32 0x3F800000#32)))))
/-- Where a vector is above zero. -/
def posArr (d : FVec Ideal S19 .f32) : IVec S19 1 := cmpf .ogt d (broadcastInDim S19 ![] bcast_S_S19 (constant S_ .f32 0x00000000#32))
/-- The diagonal's flags. -/
def eyeArr : IVec S19x19 1 := cmpi .eq (addi (iotaInDim S19x19 32 0) (broadcastInDim S19x19 ![] bcast_S_S19x19 (constantI S_ 32 0#32))) (iotaInDim S19x19 32 1)
/-- The number of pixels of each class. -/
def cntArr (l : IVec S65536 32) : FVec Ideal S19 .f32 := vecArr l (broadcastInDim S65536 ![] bcast_S_S65536 (constant S_ .f32 0x3F800000#32))
/-- The distances of rows to centroids. -/
def distArr (x : FVec Ideal S65536x256 .f32) (C : FVec Ideal S19x256 .f32) : FVec Ideal S65536x19 .f32 :=
  Host.divf (Host.sqrt (addf (maximumf (subf
      (addf (broadcastInDim S65536x19 ![0, 1] bcast_S65536x1_S65536x19_0_1 (broadcastInDim S65536x1 ![0] bcast_S65536_S65536x1_0
          (Host.reduceAdd (mulf x x) (constant S_ .f32 0x00000000#32) reducesTo_S65536x256_S65536_d1 h_S_)))
        (broadcastInDim S65536x19 ![0, 1] bcast_S1x19_S65536x19_0_1 (broadcastInDim S1x19 ![1] bcast_S19_S1x19_1
          (Host.reduceAdd (mulf C C) (constant S_ .f32 0x00000000#32) reducesTo_S19x256_S19_d1 h_S_))))
      (mulf (broadcastInDim S65536x19 ![] bcast_S_S65536x19 (constant S_ .f32 0x40000000#32))
        (Host.dotGeneral dot_S65536x256_S256x19_S65536x19_1_0_0_1_n_n none x (transpose S256x19 [1, 0] C transposes_S19x256_S256x19_1_0))))
      (broadcastInDim S65536x19 ![] bcast_S_S65536x19 (constant S_ .f32 0x00000000#32)))
      (broadcastInDim S65536x19 ![] bcast_S_S65536x19 (constant S_ .f32 0x2B8CBCCC#32))))
    (broadcastInDim S65536x19 ![] bcast_S_S65536x19 (constant S_ .f32 0x43800000#32))
/-- The mean distances by class, of distances and counts. -/
def meanArr (l : IVec S65536 32) (d : FVec Ideal S65536x19 .f32) (n : FVec Ideal S19 .f32) : FVec Ideal S19x19 .f32 :=
  Host.divf (Host.scatterAdd scatter_S19x19_S65536x1_S65536x19_1_0_0_1 (broadcastInDim S19x19 ![] bcast_S_S19x19 (constant S_ .f32 0x00000000#32)) (labCol l) d)
    (broadcastInDim S19x19 ![0, 1] bcast_S19x1_S19x19_0_1 (broadcastInDim S19x1 ![0] bcast_S19_S19x1_0
      (maximumf n (broadcastInDim S19 ![] bcast_S_S19 (constant S_ .f32 0x3F800000#32)))))
/-- The classes' numbers, a negative one counted from the end. -/
def wrapArr : IVec S19 32 :=
  select (cmpi .slt (iotaInDim S19 32 0) (broadcastInDim S19 ![] bcast_S_S19 (constantI S_ 32 0#32)))
    (addi (iotaInDim S19 32 0) (broadcastInDim S19 ![] bcast_S_S19 (constantI S_ 32 19#32))) (iotaInDim S19 32 0)
/-- A table's diagonal. -/
def diagArr (M : FVec Ideal S19x19 .f32) : FVec Ideal S19 .f32 :=
  Host.gather gather_S19x19_S19x2_S19_n_01_n_n_01_1_11 M (pairCols (F := Ideal) (broadcastInDim S19x1 ![0] bcast_S19_S19x1_0 wrapArr) (broadcastInDim S19x1 ![0] bcast_S19_S19x1_0 wrapArr))
/-- The mean of a diagonal over the flagged classes. -/
def pullArr (M : FVec Ideal S19 .f32) (v : IVec S19 1) : FVec Ideal S_ .f32 :=
  Host.divf (Host.reduceAdd (select v M (broadcastInDim S19 ![] bcast_S_S19 (constant S_ .f32 0x00000000#32))) (constant S_ .f32 0x00000000#32) reducesTo_S19_S_d0 h_S_)
    (maximumf (Host.reduceAdd (uitofp .f32 v) (constant S_ .f32 0x00000000#32) reducesTo_S19_S_d0 h_S_) (constant S_ .f32 0x3F800000#32))
/-- The least, over the flagged classes, of the greatest entry off the diagonal. -/
def pushArr (M : FVec Ideal S19x19 .f32) (v p : IVec S19 1) (e : IVec S19x19 1) : FVec Ideal S_ .f32 :=
  Host.reduce FloatOps.minimumf
    (select v (Host.reduce FloatOps.maximumf
        (select (ori e (broadcastInDim S19x19 ![0, 1] bcast_S1x19_S19x19_0_1 (broadcastInDim S1x19 ![1] bcast_S19_S1x19_1 (noti p))))
          (broadcastInDim S19x19 ![] bcast_S_S19x19 (constant S_ .f32 0xFF800000#32)) M)
        (constant S_ .f32 0xFF800000#32) reducesTo_S19x19_S19_d1 h_S_)
      (broadcastInDim S19 ![] bcast_S_S19 (constant S_ .f32 0x7F800000#32)))
    (constant S_ .f32 0x7F800000#32) reducesTo_S19_S_d0 h_S_

/-! ## At an index -/

/-- A row is a pixel of the images in row-major order. -/
theorem rowsArr_apply (f : FVec Ideal S2x256x128x256 .f32) (n : Fin 65536) (c : Fin 256) :
    rowsArr f (ix2 n c) = f (ix4 ⟨n.val / 32768, by omega⟩ c ⟨n.val / 256 % 128, by omega⟩ ⟨n.val % 256, by omega⟩) := by
  unfold rowsArr
  pointwise

/-- A pixel's label is its first class of greatest score. -/
theorem labArr_apply (s : FVec Ideal S2x19x128x256 .f32) (n : Fin 65536) :
    labArr s (ix1 n) = Spec.label fun k => s (ix4 ⟨n.val / 32768, by omega⟩ k ⟨n.val / 256 % 128, by omega⟩ ⟨n.val % 256, by omega⟩) := by
  refine Eq.trans ?_ (label_read s ⟨n.val / 32768, by omega⟩ ⟨n.val / 256 % 128, by omega⟩ ⟨n.val % 256, by omega⟩)
  unfold labArr
  pointwise

/-- A flag as a number. -/
theorem flagArr_apply (c : IVec S2x128x256 1) (n : Fin 65536) :
    flagArr c (ix1 n) = Spec.flagged c (ix3 ⟨n.val / 32768, by omega⟩ ⟨n.val / 256 % 128, by omega⟩ ⟨n.val % 256, by omega⟩) := by
  unfold flagArr
  pointwise
  exact Spec.uitofp_bit _

/-- One less a flag. -/
theorem unflagArr_apply (c : IVec S2x128x256 1) (n : Fin 65536) :
    unflagArr c (ix1 n) = Spec.unflagged c (ix3 ⟨n.val / 32768, by omega⟩ ⟨n.val / 256 % 128, by omega⟩ ⟨n.val % 256, by omega⟩) := by
  unfold unflagArr
  pointwise
  exact congrArg (fun z : EReal => 1 - z) (flagArr_apply c n)

/-- The column holds the labels. -/
theorem labCol_apply (l : IVec S65536 32) (n : Fin 65536) : labCol l (ix2 n 0) = l (ix1 n) := by
  unfold labCol
  pointwise

/-- The sum over the pixels of the class's label. -/
theorem vecArr_apply (l : IVec S65536 32) (u : FVec Ideal S65536 .f32) (k : Fin 19) :
    vecArr l u (ix1 k) = ∑ n, if BitVec.ofNat 32 k.val = l (ix1 n) then u (ix1 n) else (0 : EReal) := by
  unfold vecArr
  rw [vec_sum]
  simp only [labCol_apply]
  refine Eq.trans (congrArg (fun z : EReal => z + _) ?_) (zero_add _)
  pointwise

/-- The weighted sum of rows over the pixels of the class's label. -/
theorem tabArr_apply (l : IVec S65536 32) (x : FVec Ideal S65536x256 .f32) (w : FVec Ideal S65536 .f32) (k : Fin 19) (c : Fin 256) :
    tabArr l x w (ix2 k c) = ∑ n, if BitVec.ofNat 32 k.val = l (ix1 n) then (x (ix2 n c) * w (ix1 n) : EReal) else 0 := by
  unfold tabArr
  rw [tab_sum]
  simp only [labCol_apply]
  have h : broadcastInDim S19x256 ![] bcast_S_S19x256 (constant (F := Ideal) S_ .f32 0x00000000#32) (ix2 k c) = (0 : EReal) := by
    pointwise
  refine (congrArg (fun z : EReal => z + _) h).trans ((zero_add _).trans (Finset.sum_congr rfl fun n _ => ?_))
  refine congrArg (fun z : EReal => if BitVec.ofNat 32 k.val = l (ix1 n) then z else 0) ?_
  pointwise

/-- A sum over its weight, a weight below one taken as one. -/
theorem cenArr_apply (n : FVec Ideal S19x256 .f32) (d : FVec Ideal S19 .f32) (k : Fin 19) (c : Fin 256) :
    cenArr n d (ix2 k c) = Ideal.div (n (ix2 k c)) (max (d (ix1 k)) 1) := by
  unfold cenArr
  pointwise

/-- Whether an entry is above zero. -/
theorem posArr_apply (d : FVec Ideal S19 .f32) (k : Fin 19) : posArr d (ix1 k) = BitVec.ofBool (decide ((0 : EReal) < d (ix1 k))) := by
  unfold posArr
  pointwise

/-- The flag is set on the diagonal only. -/
theorem eyeArr_apply (i j : Fin 19) : eyeArr (ix2 i j) = 1#1 ↔ i = j := by
  unfold eyeArr
  pointwise
  rw [Spec.cmpi_eq_one, show IntOp.addi (BitVec.ofNat 32 i.val) 0#32 = BitVec.ofNat 32 i.val from BitVec.add_zero _]
  exact Spec.ofNat_inj i j

/-- The count of the pixels of the class's label. -/
theorem cntArr_apply (l : IVec S65536 32) (k : Fin 19) : cntArr l (ix1 k) = ∑ n, if BitVec.ofNat 32 k.val = l (ix1 n) then (1 : EReal) else 0 := by
  unfold cntArr
  rw [vecArr_apply]
  refine Finset.sum_congr rfl fun n _ => congrArg (fun z : EReal => if BitVec.ofNat 32 k.val = l (ix1 n) then z else 0) ?_
  pointwise

/-- The distance of a row to a centroid. -/
theorem distArr_apply (x : FVec Ideal S65536x256 .f32) (C : FVec Ideal S19x256 .f32) (n : Fin 65536) (k : Fin 19) :
    distArr x C (ix2 n k) = Spec.dist (fun k c => C (ix2 k c)) (fun c => x (ix2 n c)) k := by
  unfold distArr Spec.dist
  pointwise

/-- The sum of a class's distances over its count, a count below one taken as one. -/
theorem meanArr_apply (l : IVec S65536 32) (d : FVec Ideal S65536x19 .f32) (n : FVec Ideal S19 .f32) (i j : Fin 19) :
    meanArr l d n (ix2 i j) = Ideal.div (∑ p, if BitVec.ofNat 32 i.val = l (ix1 p) then d (ix2 p j) else (0 : EReal)) (max (n (ix1 i)) 1) := by
  have h : Host.scatterAdd scatter_S19x19_S65536x1_S65536x19_1_0_0_1 (broadcastInDim S19x19 ![] bcast_S_S19x19 (constant (F := Ideal) S_ .f32 0x00000000#32)) (labCol l) d (ix2 i j)
      = ∑ p, if BitVec.ofNat 32 i.val = l (ix1 p) then d (ix2 p j) else (0 : EReal) := by
    rw [sq_sum]
    simp only [labCol_apply]
    refine Eq.trans (congrArg (fun z : EReal => z + _) ?_) (zero_add _)
    pointwise
  rw [← h]
  unfold meanArr
  pointwise

/-- A class's number is not negative, so it stays. -/
theorem wrapArr_apply (i : Fin 19) : wrapArr (ix1 i) = BitVec.ofNat 32 i.val := by
  revert i
  decide +kernel

/-- The diagonal's entry. -/
theorem diagArr_apply (M : FVec Ideal S19x19 .f32) (i : Fin 19) : diagArr M (ix1 i) = M (ix2 i i) := by
  unfold diagArr
  refine diag_read M _ i ?_ ?_
  · refine Eq.trans ?_ (wrapArr_apply i)
    unfold pairCols
    pointwise
  · refine Eq.trans ?_ (wrapArr_apply i)
    unfold pairCols
    pointwise

/-- The sum of the flagged entries over their number. -/
theorem pullArr_apply (M : FVec Ideal S19 .f32) (v : IVec S19 1) :
    pullArr M v ix0 = Ideal.div (∑ i, Scalar.select (v (ix1 i)) (M (ix1 i)) (0 : EReal)) (max (∑ i, if v (ix1 i) = 1#1 then 1 else 0) 1) := by
  unfold pullArr
  pointwise
  exact congrArg (fun z : EReal => Ideal.div _ (max z 1)) (Finset.sum_congr rfl fun i _ => Spec.uitofp_bit _)

/-- A bit or another's opposite. -/
theorem or_compl_bit (a b : BitVec 1) : IntOp.ori a (~~~b) = 1#1 ↔ a = 1#1 ∨ b = 0#1 := by
  revert a b; decide

/-- The push term of a table, where the flags `e` are the diagonal's. -/
theorem pushArr_apply (M : FVec Ideal S19x19 .f32) (v p : IVec S19 1) (e : IVec S19x19 1) (he : ∀ i j, e (ix2 i j) = 1#1 ↔ i = j) :
    pushArr M v p e ix0 = Spec.push (fun i j => M (ix2 i j)) (fun i => v (ix1 i)) (fun i => p (ix1 i)) := by
  unfold pushArr Spec.push
  pointwise
  refine Eq.trans ?_ (congrArg (fun b : EReal => Finset.univ.fold min b _) Spec.ofBits_inf)
  refine congrArg (fun g : Fin 19 → EReal => Finset.univ.fold min (Ideal.ofBits .f32 2139095040#32) g) (funext fun i => ?_)
  refine congrArg₂ (fun y z : EReal => Scalar.select (v (ix1 i)) y z) ?_ Spec.ofBits_inf
  refine Eq.trans ?_ (congrArg (fun b : EReal => Finset.univ.fold max b _) Spec.ofBits_neg_inf)
  refine congrArg (fun g : Fin 19 → EReal => Finset.univ.fold max (Ideal.ofBits .f32 4286578688#32) g) (funext fun j => ?_)
  rw [Spec.select_eq]
  refine (ite_congr (propext ?_) (fun _ => Spec.ofBits_neg_inf) fun _ => rfl)
  rw [or_compl_bit, he]

end Cert.ReferenceIdeal.Line
-- ==== Proof.RValue.lean ====
/- The reference's result: the six stages' buffers by the array functions, and the loss they come to. -/
module

public import proofs.«01_k».proof.Proof.RArr

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable (V : Valuation τ sig (Elt Ideal))

/-! ## The stages' buffers -/

/-- Stage A leaves the source's rows. -/
theorem putA1 : after opsA V (Proc.devRef .tc main_v1) = rowsArr (V (Proc.devRef .tc main_arg0)) := by
  simp only [opsA]; after_results_simp; rfl
/-- Stage A leaves the target's rows. -/
theorem putA3 : after opsA V (Proc.devRef .tc main_v3) = rowsArr (V (Proc.devRef .tc main_arg3)) := by
  simp only [opsA]; after_results_simp; rfl
/-- Stage A leaves the source's labels. -/
theorem putA5 : after opsA V (Proc.devRef .tc main_v5) = labArr (V (Proc.devRef .tc main_arg1)) := by
  simp only [opsA]; after_results_simp; rfl
/-- Stage A leaves the target's labels. -/
theorem putA7 : after opsA V (Proc.devRef .tc main_v7) = labArr (V (Proc.devRef .tc main_arg4)) := by
  simp only [opsA]; after_results_simp; rfl
/-- Stage A leaves the source's weights. -/
theorem putA9 : after opsA V (Proc.devRef .tc main_v9) = flagArr (V (Proc.devRef .tc main_arg2)) := by
  simp only [opsA]; after_results_simp; rfl
/-- Stage A leaves the target's weights. -/
theorem putA13 : after opsA V (Proc.devRef .tc main_v13) = unflagArr (V (Proc.devRef .tc main_arg5)) := by
  simp only [opsA]; after_results_simp; rfl

/-- Both domains' weights by class. -/
def denOf : FVec Ideal S19 .f32 :=
  addf (vecArr (V (Proc.devRef .tc main_v5)) (V (Proc.devRef .tc main_v9))) (vecArr (V (Proc.devRef .tc main_v7)) (V (Proc.devRef .tc main_v13)))

/-- Stage B leaves the centroids. -/
theorem putB38 : after opsB V (Proc.devRef .tc main_v38) =
    cenArr (addf (tabArr (V (Proc.devRef .tc main_v5)) (V (Proc.devRef .tc main_v1)) (V (Proc.devRef .tc main_v9)))
      (tabArr (V (Proc.devRef .tc main_v7)) (V (Proc.devRef .tc main_v3)) (V (Proc.devRef .tc main_v13)))) (denOf V) := by
  simp only [opsB]; after_results_simp; rfl
/-- Stage B leaves which classes have one. -/
theorem putB40 : after opsB V (Proc.devRef .tc main_v40) = posArr (denOf V) := by
  simp only [opsB]; after_results_simp; rfl
/-- Stage B leaves the diagonal's flags. -/
theorem putB45 : after opsB V (Proc.devRef .tc main_v45) = eyeArr := by
  simp only [opsB]; after_results_simp; rfl

/-- Stage C leaves the source's counts. -/
theorem putC70 : after opsC V (Proc.devRef .tc main_v70) = cntArr (V (Proc.devRef .tc main_v5)) := by
  simp only [opsC]; after_results_simp; rfl
/-- Stage C leaves the source's mean distances. -/
theorem putC78 : after opsC V (Proc.devRef .tc main_v78) = meanArr (V (Proc.devRef .tc main_v5))
    (distArr (V (Proc.devRef .tc main_v1)) (V (Proc.devRef .tc main_v38))) (cntArr (V (Proc.devRef .tc main_v5))) := by
  simp only [opsC]; after_results_simp; rfl

/-- Stage D leaves the source's pull term. -/
theorem putD103 : after opsD V (Proc.devRef .tc main_v103) = pullArr (diagArr (V (Proc.devRef .tc main_v78)))
    (andi (posArr (V (Proc.devRef .tc main_v70))) (V (Proc.devRef .tc main_v40))) := by
  simp only [opsD]; after_results_simp; rfl
/-- Stage D leaves the source's push term. -/
theorem putD111 : after opsD V (Proc.devRef .tc main_v111) = pushArr (V (Proc.devRef .tc main_v78))
    (andi (posArr (V (Proc.devRef .tc main_v70))) (V (Proc.devRef .tc main_v40))) (V (Proc.devRef .tc main_v40)) (V (Proc.devRef .tc main_v45)) := by
  simp only [opsD]; after_results_simp; rfl

/-- Stage E leaves the target's counts. -/
theorem putE136 : after opsE V (Proc.devRef .tc main_v136) = cntArr (V (Proc.devRef .tc main_v7)) := by
  simp only [opsE]; after_results_simp; rfl
/-- Stage E leaves the target's mean distances. -/
theorem putE144 : after opsE V (Proc.devRef .tc main_v144) = meanArr (V (Proc.devRef .tc main_v7))
    (distArr (V (Proc.devRef .tc main_v3)) (V (Proc.devRef .tc main_v38))) (cntArr (V (Proc.devRef .tc main_v7))) := by
  simp only [opsE]; after_results_simp; rfl

/-- Which target classes count. -/
def okF : IVec S19 1 := andi (posArr (V (Proc.devRef .tc main_v136))) (V (Proc.devRef .tc main_v40))

/-- Stage F leaves the loss, of the source's terms and the target's. -/
theorem putF181 : after opsF V (Proc.devRef .tc main_v181) =
    subf (addf (V (Proc.devRef .tc main_v103)) (pullArr (diagArr (V (Proc.devRef .tc main_v144))) (okF V)))
      (mulf (constant S_ .f32 0x3DCCCCCD#32)
        (addf (V (Proc.devRef .tc main_v111)) (pushArr (V (Proc.devRef .tc main_v144)) (okF V) (V (Proc.devRef .tc main_v40)) (V (Proc.devRef .tc main_v45))))) := by
  simp only [opsF]; after_results_simp; rfl

end Cert.ReferenceIdeal.Line
-- ==== Proof.RLoss.lean ====
/- The reference's result is the loss of its arguments' two domains. -/
module

public import proofs.«01_k».proof.Proof.RValue

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

/-! ## Arrays that hold a domain -/

/-- The rows, labels and weights are a domain's. -/
structure Holds (D : Spec.Dom) (x : FVec Ideal S65536x256 .f32) (l : IVec S65536 32) (w : FVec Ideal S65536 .f32) : Prop where
  /-- the rows are the features -/
  x : ∀ n c, x (ix2 n c) = D.f n c
  /-- the labels are the scores' -/
  l : ∀ n, l (ix1 n) = Spec.label (D.s n)
  /-- the weights -/
  w : ∀ n, w (ix1 n) = D.w n

variable {S T D : Spec.Dom} {x x' : FVec Ideal S65536x256 .f32} {l l' : IVec S65536 32} {w w' : FVec Ideal S65536 .f32}

/-- A sum over the pixels of a label is a sum over the class. -/
theorem Holds.seg (h : Holds D x l w) (g : Fin 65536 → EReal) (k : Fin 19) :
    (∑ n, if BitVec.ofNat 32 k.val = l (ix1 n) then g n else (0 : EReal)) = Spec.seg D g k := by
  unfold Spec.seg
  exact Finset.sum_congr rfl fun n _ => by rw [h.l]

/-- The weights by class. -/
theorem Holds.vec (h : Holds D x l w) (k : Fin 19) : vecArr l w (ix1 k) = Spec.seg D D.w k := by
  rw [vecArr_apply, ← h.seg D.w k]
  exact Finset.sum_congr rfl fun n _ => by rw [h.w]

/-- The weighted rows by class. -/
theorem Holds.tab (h : Holds D x l w) (k : Fin 19) (c : Fin 256) : tabArr l x w (ix2 k c) = Spec.seg D (fun n => D.f n c * D.w n) k := by
  rw [tabArr_apply, ← h.seg]
  exact Finset.sum_congr rfl fun n _ => by rw [h.x, h.w]

/-- The pixels counted by class. -/
theorem Holds.cnt (h : Holds D x l w) (k : Fin 19) : cntArr l (ix1 k) = Spec.cnt D k := by
  rw [cntArr_apply]
  exact h.seg (fun _ => 1) k

/-- Both domains' weights. -/
theorem Holds.den (hS : Holds S x l w) (hT : Holds T x' l' w') (k : Fin 19) : addf (vecArr l w) (vecArr l' w') (ix1 k) = Spec.den S T k :=
  congrArg₂ (fun a b : EReal => a + b) (hS.vec k) (hT.vec k)

/-- The centroids. -/
theorem Holds.cen (hS : Holds S x l w) (hT : Holds T x' l' w') (k : Fin 19) (c : Fin 256) :
    cenArr (addf (tabArr l x w) (tabArr l' x' w')) (addf (vecArr l w) (vecArr l' w')) (ix2 k c) = Spec.cen S T k c := by
  rw [cenArr_apply, hS.den hT]
  exact congrArg (fun z : EReal => Ideal.div z (max (Spec.den S T k) 1)) (congrArg₂ (fun a b : EReal => a + b) (hS.tab k c) (hT.tab k c))

/-- Which classes have a centroid. -/
theorem Holds.has (hS : Holds S x l w) (hT : Holds T x' l' w') (k : Fin 19) : posArr (addf (vecArr l w) (vecArr l' w')) (ix1 k) = Spec.has S T k := by
  rw [posArr_apply, hS.den hT]
  rfl

/-- The mean distances. -/
theorem Holds.mean (h : Holds D x l w) (C : FVec Ideal S19x256 .f32) (K : Fin 19 → Fin 256 → EReal) (hC : ∀ k c, C (ix2 k c) = K k c) (i j : Fin 19) :
    meanArr l (distArr x C) (cntArr l) (ix2 i j) = Spec.mean K D i j := by
  rw [meanArr_apply, h.cnt, ← funext fun k => funext (hC k)]
  unfold Spec.mean
  rw [← h.seg]
  refine congrArg (fun z : EReal => Ideal.div z (max (Spec.cnt D i) 1)) (Finset.sum_congr rfl fun n _ => ?_)
  rw [distArr_apply, funext (h.x n)]

/-- Which classes count. -/
theorem Holds.valid (h : Holds D x l w) (p : IVec S19 1) (hp : ∀ k, p (ix1 k) = Spec.has S T k) (i : Fin 19) :
    andi (posArr (cntArr l)) p (ix1 i) = Spec.valid S T D i := by
  refine congrArg₂ IntOp.andi ?_ (hp i)
  rw [posArr_apply, h.cnt]

/-- The pull term. -/
theorem pull_read (M : FVec Ideal S19x19 .f32) (v : IVec S19 1) (N : Fin 19 → Fin 19 → EReal) (u : Fin 19 → BitVec 1) (hM : ∀ i j, M (ix2 i j) = N i j)
    (hv : ∀ i, v (ix1 i) = u i) : pullArr (diagArr M) v ix0 = Spec.pull N u := by
  rw [pullArr_apply]
  unfold Spec.pull
  refine congrArg₂ (fun a b : EReal => Ideal.div a (max b 1)) (Finset.sum_congr rfl fun i _ => ?_) (Finset.sum_congr rfl fun i _ => ?_)
  · rw [diagArr_apply, hM, hv]
  · rw [hv]

/-- The push term. -/
theorem push_read (M : FVec Ideal S19x19 .f32) (v p : IVec S19 1) (N : Fin 19 → Fin 19 → EReal) (u q : Fin 19 → BitVec 1) (hM : ∀ i j, M (ix2 i j) = N i j)
    (hv : ∀ i, v (ix1 i) = u i) (hp : ∀ i, p (ix1 i) = q i) : pushArr M v p eyeArr ix0 = Spec.push N u q := by
  rw [pushArr_apply M v p eyeArr eyeArr_apply, funext hv, funext hp, funext fun i => funext (hM i)]

/-! ## The result -/

/-- The loss of two domains' arrays. -/
def lossArr (x : FVec Ideal S65536x256 .f32) (l : IVec S65536 32) (w : FVec Ideal S65536 .f32) (x' : FVec Ideal S65536x256 .f32) (l' : IVec S65536 32)
    (w' : FVec Ideal S65536 .f32) : FVec Ideal S_ .f32 :=
  let d := addf (vecArr l w) (vecArr l' w')
  let C := cenArr (addf (tabArr l x w) (tabArr l' x' w')) d
  let M := meanArr l (distArr x C) (cntArr l)
  let M' := meanArr l' (distArr x' C) (cntArr l')
  let v := andi (posArr (cntArr l)) (posArr d)
  let v' := andi (posArr (cntArr l')) (posArr d)
  subf (addf (pullArr (diagArr M) v) (pullArr (diagArr M') v'))
    (mulf (constant S_ .f32 0x3DCCCCCD#32) (addf (pushArr M v (posArr d) eyeArr) (pushArr M' v' (posArr d) eyeArr)))

/-- It is the domains' loss. -/
theorem Holds.loss (hS : Holds S x l w) (hT : Holds T x' l' w') : lossArr x l w x' l' w' = fun _ => Spec.loss S T := by
  funext j
  rw [show j = ix0 from Subsingleton.elim _ _]
  have hC := hS.cen hT
  have hp := hS.has hT
  have hM := hS.mean _ _ hC
  have hM' := hT.mean _ _ hC
  have hv := hS.valid _ hp
  have hv' := hT.valid _ hp
  exact congrArg₂ (fun a b : EReal => a - Ideal.ofBits .f32 0x3DCCCCCD#32 * b)
    (congrArg₂ (fun a b : EReal => a + b) (pull_read _ _ _ _ hM hv) (pull_read _ _ _ _ hM' hv'))
    (congrArg₂ (fun a b : EReal => a + b) (push_read _ _ _ _ _ _ hM hv hp) (push_read _ _ _ _ _ _ hM' hv' hp))

variable (m : (ℓ : Loc nD τ sig) → Buf (Elt Ideal) ℓ) (c : Dev nD)

/-- The source domain of the arguments. -/
def srcDom : Spec.Dom := Spec.domOf (m (c.tc.loc main_arg0)) (m (c.tc.loc main_arg1)) (Spec.flagged (m (c.tc.loc main_arg2)))
/-- The target domain of the arguments. -/
def tgtDom : Spec.Dom := Spec.domOf (m (c.tc.loc main_arg3)) (m (c.tc.loc main_arg4)) (Spec.unflagged (m (c.tc.loc main_arg5)))

/-- The source's rows, labels and weights hold the source domain. -/
theorem holds_src : Holds (srcDom m c) (rowsArr (m (c.tc.loc main_arg0))) (labArr (m (c.tc.loc main_arg1))) (flagArr (m (c.tc.loc main_arg2))) :=
  ⟨rowsArr_apply _, labArr_apply _, flagArr_apply _⟩

/-- The target's rows, labels and weights hold the target domain. -/
theorem holds_tgt : Holds (tgtDom m c) (rowsArr (m (c.tc.loc main_arg3))) (labArr (m (c.tc.loc main_arg4))) (unflagArr (m (c.tc.loc main_arg5))) :=
  ⟨rowsArr_apply _, labArr_apply _, unflagArr_apply _⟩

/-- The line leaves the loss of the arguments' arrays. -/
theorem final_arr : final m c (Proc.devRef .tc main_v181) =
    lossArr (rowsArr (m (c.tc.loc main_arg0))) (labArr (m (c.tc.loc main_arg1))) (flagArr (m (c.tc.loc main_arg2)))
      (rowsArr (m (c.tc.loc main_arg3))) (labArr (m (c.tc.loc main_arg4))) (unflagArr (m (c.tc.loc main_arg5))) := by
  unfold final ops
  rw [after_append, after_append, after_append, after_append, after_append, putF181]
  unfold okF
  rw [putE136, putE144, keepE _ main_v103 (by decide), keepE _ main_v111 (by decide), keepE _ main_v40 (by decide), keepE _ main_v45 (by decide),
    putD103, putD111, keepD _ main_v7 (by decide), keepD _ main_v3 (by decide), keepD _ main_v38 (by decide), keepD _ main_v40 (by decide), keepD _ main_v45 (by decide),
    putC70, putC78, keepC _ main_v7 (by decide), keepC _ main_v3 (by decide), keepC _ main_v38 (by decide), keepC _ main_v40 (by decide), keepC _ main_v45 (by decide),
    putB38, putB40, putB45, keepB _ main_v7 (by decide), keepB _ main_v3 (by decide), keepB _ main_v5 (by decide), keepB _ main_v1 (by decide)]
  unfold denOf
  rw [putA1, putA3, putA5, putA7, putA9, putA13]
  rfl

/-- The reference's program ends with the loss as its result and its arguments as they were. -/
theorem value (ρ : Dev nD → PrngReg) : θ_run (defs (F := Ideal)) (onTc (τ := τ) (main (F := Ideal))) ⟨m, fun _ => 0, ρ⟩ (fun r => ∀ c : Dev nD,
      r.2.mem ((c.tc : Thread nD τ).loc main_v181) = (fun _ => Spec.loss (srcDom m c) (tgtDom m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine θ_run_mono (run m ρ) fun r h c => ?_
  simp only [h c]
  exact ⟨(final_arr m c).trans ((holds_src m c).loss (holds_tgt m c)), args_kept m c⟩

end Cert.ReferenceIdeal.Line
-- ==== Proof.lean ====
/- The certificate's claims, assembled: the three frames, that the ideal program is the kernel's own, and that the kernel
   and the reference end with the same loss. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.KBits
public import proofs.«01_k».proof.Proof.RRun
public import proofs.«01_k».proof.Proof.KFeeds
public import proofs.«01_k».proof.Proof.RLoss

@[expose] public section

noncomputable section

namespace Cert.Proof

open Idealize.ShloMosaic Idealize.SL.Sem

/-- The kernel and the reference, both read at the ideal instance, end with the loss of the two domains their arguments hold. -/
theorem same_loss : Cert.algebraic_KernelIdeal_ReferenceIdeal := by
  intro m g m' g' _ ha
  refine ⟨fun c _ => Spec.loss (Cert.KernelIdeal.Pass.srcDom m c) (Cert.KernelIdeal.Pass.tgtDom m c), Cert.KernelIdeal.Pass.value m g,
    θ_run_mono (Cert.ReferenceIdeal.Line.value m' g') fun r h c => ⟨(h c).1.trans ?_, (h c).2⟩⟩
  obtain ⟨h0, h1, h2, h3, h4, h5⟩ := ha c
  have hS : Cert.ReferenceIdeal.Line.srcDom m' c = Cert.KernelIdeal.Pass.srcDom m c := by
    unfold Cert.ReferenceIdeal.Line.srcDom Cert.KernelIdeal.Pass.srcDom
    rw [h0, h1, h2]
  have hT : Cert.ReferenceIdeal.Line.tgtDom m' c = Cert.KernelIdeal.Pass.tgtDom m c := by
    unfold Cert.ReferenceIdeal.Line.tgtDom Cert.KernelIdeal.Pass.tgtDom
    rw [h3, h4, h5]
  exact funext fun _ => congrArg₂ Spec.loss hS hT

/-- Every claim of the certificate. -/
theorem claim : Cert.Claim := ⟨Cert.Kernel.Gen.facts, Cert.KernelIdeal.Gen.facts, Cert.ReferenceIdeal.Gen.facts,
  quiet_bits, fun m g _ => Cert.KernelIdeal.Pass.frame m g, Cert.ReferenceIdeal.Line.quiet, trivial, same_loss⟩

end Cert.Proof

end
